-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_relied_on [hPre_inputs_relied_on : Cert.Pre_inputs_relied_on.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_relied_on.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_relied_on [hPre_inputs_relied_on : Cert.Pre_inputs_relied_on.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_relied_on.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs_relied_on [hKernelIdeal : Cert.KernelIdeal.Facts] [hPre_inputs_relied_on : Cert.Pre_inputs_relied_on.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_relied_on m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs_relied_on [hReferenceIdeal : Cert.ReferenceIdeal.Facts] [hPre_inputs_relied_on : Cert.Pre_inputs_relied_on.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_relied_on m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs_relied_on [hKernelIdeal : Cert.KernelIdeal.Facts] [hReferenceIdeal : Cert.ReferenceIdeal.Facts] [hPre_inputs_relied_on : Cert.Pre_inputs_relied_on.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_relied_on m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs_relied_on : Cert.Pre_inputs_relied_on.Facts),
    quiescent_Kernel (hKernel := hKernel)
    ∧ quiescent_KernelIdeal (hKernelIdeal := hKernelIdeal)
    ∧ quiescent_KernelIdeal_pre_inputs_relied_on (hKernelIdeal := hKernelIdeal) (hPre_inputs_relied_on := hPre_inputs_relied_on)
    ∧ quiescent_ReferenceIdeal (hReferenceIdeal := hReferenceIdeal)
    ∧ quiescent_ReferenceIdeal_pre_inputs_relied_on (hReferenceIdeal := hReferenceIdeal) (hPre_inputs_relied_on := hPre_inputs_relied_on)
    ∧ preserves_Kernel_KernelIdeal
    ∧ algebraic_KernelIdeal_ReferenceIdeal_pre_inputs_relied_on (hKernelIdeal := hKernelIdeal) (hReferenceIdeal := hReferenceIdeal) (hPre_inputs_relied_on := hPre_inputs_relied_on)
-- ==== Pre_inputs_relied_on.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v15 : IVec S_ 1) (main_cst_5 : FVec F S_ .f32) : IVec S_ 1 :=
  let main_v16 : FVec F S128 .f32 := broadcastInDim S128 ![] bcast_S_S128 main_cst_5
  let main_v17 : IVec S128 1 := cmpf .oeq main_arg6 main_v16
  let main_c_6 : IVec S_ 1 := constantI S_ 1 1#1
  let main_v18 : IVec S_ 1 := (fun x v => Host.reduce IntOp.andi x v reducesTo_S128_S_d0 h_S_) main_v17 main_c_6
  let main_v19 : IVec S_ 1 := andi main_v15 main_v18
  main_v19

def fn {F : FTy → Type} [FloatOps F] (main_arg0 : FVec F S100000x128 .f32) (main_arg1 : IVec S100000 32) (main_arg2 : FVec F S100000 .f32) (main_arg3 : FVec F S128x128 .f32) (main_arg4 : FVec F S128 .f32) (main_arg5 : FVec F S128x128 .f32) (main_arg6 : FVec F S128 .f32) : IVec S_ 1 :=
  let main_c : IVec S_ 32 := constantI S_ 32 2147483647#32
  let main_v0 : IVec S100000 32 := broadcastInDim S100000 ![] bcast_S_S100000 main_c
  let main_v1 : IVec S100000 1 := cmpi .slt main_arg1 main_v0
  let main_c_0 : IVec S_ 1 := constantI S_ 1 1#1
  let main_v2 : IVec S_ 1 := (fun x v => Host.reduce IntOp.andi x v reducesTo_S100000_S_d0 h_S_) main_v1 main_c_0
  let main_v3 : IVec S99999 32 := (extractStridedSlice S99999 ![0] · slices_S100000_S99999_0) main_arg1
  let main_v4 : IVec S99999 32 := (extractStridedSlice S99999 ![1] · slices_S100000_S99999_1) main_arg1
  let main_v5 : IVec S99999 1 := cmpi .sle main_v3 main_v4
  let main_c_1 : IVec S_ 1 := constantI S_ 1 1#1
  let main_v6 : IVec S_ 1 := (fun x v => Host.reduce IntOp.andi x v reducesTo_S99999_S_d0 h_S_) main_v5 main_c_1
  let main_v7 : IVec S_ 1 := andi main_v2 main_v6
  let main_cst : FVec F S_ .f32 := constant S_ .f32 0x3F800000#32
  let main_v8 : FVec F S100000 .f32 := broadcastInDim S100000 ![] bcast_S_S100000 main_cst
  let main_v9 : IVec S100000 1 := cmpf .oeq main_arg2 main_v8
  let main_c_2 : IVec S_ 1 := constantI S_ 1 1#1
  let main_v10 : IVec S_ 1 := (fun x v => Host.reduce IntOp.andi x v reducesTo_S100000_S_d0 h_S_) main_v9 main_c_2
  let main_v11 : IVec S_ 1 := andi main_v7 main_v10
  let main_cst_3 : FVec F S_ .f32 := constant S_ .f32 0x00000000#32
  let main_v12 : FVec F S128 .f32 := broadcastInDim S128 ![] bcast_S_S128 main_cst_3
  let main_v13 : IVec S128 1 := cmpf .oeq main_arg4 main_v12
  let main_c_4 : IVec S_ 1 := constantI S_ 1 1#1
  let main_v14 : IVec S_ 1 := (fun x v => Host.reduce IntOp.andi x v reducesTo_S128_S_d0 h_S_) main_v13 main_c_4
  let main_v15 : IVec S_ 1 := andi main_v11 main_v14
  let main_cst_5 : FVec F S_ .f32 := constant S_ .f32 0x00000000#32
  fn_part1 (F := F) main_arg6 main_v15 main_cst_5
-- ==== Kernel.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S25x1x4000 : Shape := ⟨3, ![25, 1, 4000]⟩
abbrev S_ : Shape := ⟨0, ![]⟩
abbrev S128x256 : Shape := ⟨2, ![128, 256]⟩
abbrev S64x256 : Shape := ⟨2, ![64, 256]⟩
abbrev S1x1x4000 : Shape := ⟨3, ![1, 1, 4000]⟩
abbrev S4000x128 : Shape := ⟨2, ![4000, 128]⟩
abbrev S128x64 : Shape := ⟨2, ![128, 64]⟩
abbrev S1x64 : Shape := ⟨2, ![1, 64]⟩
abbrev S256x4000 : Shape := ⟨2, ![256, 4000]⟩
abbrev S128x4000 : Shape := ⟨2, ![128, 4000]⟩
abbrev S1x4000 : Shape := ⟨2, ![1, 4000]⟩
abbrev S64x4000 : Shape := ⟨2, ![64, 4000]⟩
abbrev S1x1 : Shape := ⟨2, ![1, 1]⟩
abbrev S128x1 : Shape := ⟨2, ![128, 1]⟩
abbrev S64x64 : Shape := ⟨2, ![64, 64]⟩
abbrev S64x128 : Shape := ⟨2, ![64, 128]⟩
abbrev S64x1 : Shape := ⟨2, ![64, 1]⟩

abbrev nBuf : Space → Nat
  | .hbm => 14
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S25x1x4000, .i32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S128x256, .f32⟩
  | .hbm, ⟨12, _⟩ => ⟨S128x256, .bf16⟩
  | .hbm, ⟨13, _⟩ => ⟨S64x256, .f32⟩
  | .local _ .vmem, ⟨0, _⟩ => ⟨S1x1x4000, .i32⟩
  | .local _ .vmem, ⟨1, _⟩ => ⟨S1x1x4000, .i32⟩
  | .local _ .vmem, ⟨2, _⟩ => ⟨S4000x128, .f32⟩
  | .local _ .vmem, ⟨3, _⟩ => ⟨S4000x128, .f32⟩
  | .local _ .vmem, ⟨4, _⟩ => ⟨S128x256, .bf16⟩
  | .local _ .vmem, ⟨5, _⟩ => ⟨S64x256, .f32⟩
  | .local _ .vmem, ⟨6, _⟩ => ⟨S128x64, .f32⟩
  | .local _ .vmem, ⟨7, _⟩ => ⟨S1x64, .f32⟩
  | .local _ .vmem, ⟨8, _⟩ => ⟨S128x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![25], ![false]⟩

@[reducible] def k0_t1_loop (v38 : BitVec 32) (v40 : BitVec 32) : Scf.Loop 32 :=
  let c0_i32_20 : BitVec 32 := 0#32
  let v42 : BitVec 32 := Scalar.addi v38 c0_i32_20
  let c1_i32 : BitVec 32 := 1#32
  let v43 : BitVec 32 := Scalar.addi v40 c1_i32
  let v44 : BitVec 32 := Scalar.subi v43 v42
  let c1_i32_22 : BitVec 32 := 1#32
  let v46 : BitVec 32 := Scalar.divsi v44 c1_i32_22
  let v47 : BitVec 32 := Scalar.muli v46 c1_i32_22
  let v48 : BitVec 32 := Scalar.addi v42 v47
  let c1_i32_23 : BitVec 32 := 1#32
  ⟨v42, v48, c1_i32_23⟩

@[reducible] def k0_t2_loop (v38 : BitVec 32) (v40 : BitVec 32) : Scf.Loop 32 :=
  let c0_i32_20 : BitVec 32 := 0#32
  let v42 : BitVec 32 := Scalar.addi v38 c0_i32_20
  let c1_i32 : BitVec 32 := 1#32
  let v43 : BitVec 32 := Scalar.addi v40 c1_i32
  let v44 : BitVec 32 := Scalar.subi v43 v42
  let c1_i32_22 : BitVec 32 := 1#32
  let v46 : BitVec 32 := Scalar.divsi v44 c1_i32_22
  let v47 : BitVec 32 := Scalar.muli v46 c1_i32_22
  let v48 : BitVec 32 := Scalar.addi v42 v47
  let v45 : BitVec 32 := Scalar.addi v42 v44
  let c1_i32_24 : BitVec 32 := 1#32
  ⟨v48, v45, c1_i32_24⟩

def k0_chk1 (v38 : BitVec 32) (v40 : BitVec 32) : Prop :=
  ((k0_t1_loop v38 v40).OK) ∧
  ((k0_t2_loop v38 v40).OK)
theorem k0_t1_ok : ∀ (v38 : BitVec 32) (v40 : BitVec 32) (k0_hw1 : k0_chk1 v38 v40), (k0_t1_loop v38 v40).OK := fun v38 v40 k0_hw1 => k0_hw1.1
theorem k0_t2_ok : ∀ (v38 : BitVec 32) (v40 : BitVec 32) (k0_hw1 : k0_chk1 v38 v40), (k0_t2_loop v38 v40).OK := fun v38 v40 k0_hw1 => k0_hw1.2

def k0_cond2 (i : grid0.Coords) : BitVec 1 :=
  let arg0 : BitVec 32 := BitVec.ofNat 32 (i 0).val
  let c24_i32 : BitVec 32 := 24#32
  let v51 : BitVec 1 := Scalar.cmpi .eq arg0 c24_i32
  let v52 : BitVec 32 := Scalar.extui v51
  let c0_i32_25 : BitVec 32 := 0#32
  let v53 : BitVec 1 := Scalar.cmpi .ne v52 c0_i32_25
  v53

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x4000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S100000x128 : Shape := ⟨2, ![100000, 128]⟩
abbrev S100000 : Shape := ⟨1, ![100000]⟩
abbrev S128x128 : Shape := ⟨2, ![128, 128]⟩
abbrev S128 : Shape := ⟨1, ![128]⟩
abbrev S100000x1 : Shape := ⟨2, ![100000, 1]⟩
abbrev S1x128 : Shape := ⟨2, ![1, 128]⟩
abbrev S_ : Shape := ⟨0, ![]⟩
abbrev S64x128 : Shape := ⟨2, ![64, 128]⟩
abbrev S64x1 : Shape := ⟨2, ![64, 1]⟩
abbrev S64 : Shape := ⟨1, ![64]⟩
abbrev S1x100000 : Shape := ⟨2, ![1, 100000]⟩
abbrev S64x100000 : Shape := ⟨2, ![64, 100000]⟩
abbrev S64x100000x1 : Shape := ⟨3, ![64, 100000, 1]⟩
abbrev S1x100000x128 : Shape := ⟨3, ![1, 100000, 128]⟩
abbrev S64x100000x128 : Shape := ⟨3, ![64, 100000, 128]⟩
abbrev S64x256 : Shape := ⟨2, ![64, 256]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S100000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000x1, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S100000x128, .f32⟩
  | .hbm, ⟨13, _⟩ => ⟨S100000x128, .f32⟩
  | .hbm, ⟨14, _⟩ => ⟨S_, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S100000x128, .f32⟩
  | .hbm, ⟨19, _⟩ => ⟨S100000x128, .f32⟩
  | .hbm, ⟨20, _⟩ => ⟨S100000x128, .f32⟩
  | .hbm, ⟨21, _⟩ => ⟨S1x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S64x128, .f32⟩
  | .hbm, ⟨30, _⟩ => ⟨S100000x1, .i32⟩
  | .hbm, ⟨31, _⟩ => ⟨S64x128, .f32⟩
  | .hbm, ⟨32, _⟩ => ⟨S_, .f32⟩
  | .hbm, ⟨33, _⟩ => ⟨S64x1, .f32⟩
  | .hbm, ⟨34, _⟩ => ⟨S100000x1, .i32⟩
  | .hbm, ⟨35, _⟩ => ⟨S64x1, .f32⟩
  | .hbm, ⟨36, _⟩ => ⟨S_, .f32⟩
  | .hbm, ⟨37, _⟩ => ⟨S64x1, .f32⟩
  | .hbm, ⟨38, _⟩ => ⟨S64x1, .f32⟩
  | .hbm, ⟨39, _⟩ => ⟨S64x128, .f32⟩
  | .hbm, ⟨40, _⟩ => ⟨S64x128, .f32⟩
  | .hbm, ⟨41, _⟩ => ⟨S64, .i32⟩
  | .hbm, ⟨42, _⟩ => ⟨S1x100000, .i32⟩
  | .hbm, ⟨43, _⟩ => ⟨S64x1, .i32⟩
  | .hbm, ⟨44, _⟩ => ⟨S64x100000, .i32⟩
  | .hbm, ⟨45, _⟩ => ⟨S64x100000, .i32⟩
  | .hbm, ⟨46, _⟩ => ⟨S64x100000, .i1⟩
  | .hbm, ⟨47, _⟩ => ⟨S64x100000x1, .i1⟩
  | .hbm, ⟨48, _⟩ => ⟨S1x100000x128, .f32⟩
  | .hbm, ⟨49, _⟩ => ⟨S_, .f32⟩
  | .hbm, ⟨50, _⟩ => ⟨S_, .f32⟩
  | .hbm, ⟨51, _⟩ => ⟨S64x100000x128, .i1⟩
  | .hbm, ⟨52, _⟩ => ⟨S64x100000x128, .f32⟩
  | .hbm, ⟨53, _⟩ => ⟨S64x100000x128, .f32⟩
  | .hbm, ⟨54, _⟩ => ⟨S64x100000x128, .f32⟩
  | .hbm, ⟨55, _⟩ => ⟨S_, .f32⟩
  | .hbm, ⟨56, _⟩ => ⟨S64x128, .f32⟩
  | .hbm, ⟨57, _⟩ => ⟨S64x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Proof.KernelIdealBody.lean ====
/-
  One grid step of the gated readout program `KernelIdeal`, for any float values.

  The step keeps three arrays between grid points: the running sums (features by segments), the running counts and the
  running maxima. This module states what one step does to them as functions (`stepSt`), the loop over the segments of a
  block as an iteration (`maxIter`), and proves the three triples of the body: at the first point (`body_first`), at a
  point in between (`body_mid`) and at the last point (`body_last`), where the output block is written.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Tactic
public import Idealize.ShloMosaic.Lib.LoopRemainder
public import Idealize.ShloMosaic.Lib.VecWindow
public import Idealize.ShloMosaic.Lib.WordCmp
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the proofs below. -/
local notation "𝕄" => MT nD τ sig Unit (Elt F) ℕ (UR sig nD τ) ℕ

/-! ## The side condition of the loops -/

/-- The condition under which the two loops over segments do not wrap holds for all words. -/
theorem chk_all (v38 v40 : BitVec 32) : k0_chk1 v38 v40 := by
  refine ⟨?_, Scf.rem_ok _ _⟩
  have h0 := Affine.word_range (k0_t1_loop v38 v40).lb
  have h1 := Affine.word_range (k0_t1_loop v38 v40).ub
  exact Affine.ok (Affine.word _) (Affine.word _) (Affine.ofNat 1 ⟨rfl, by decide⟩) ⟨by decide, by omega⟩

/-! ## What a step computes -/

/-- The running maxima before trip `k` of the loop over a block's segments, from the maxima `g` at its entry. -/
def maxIter (v13 : IVec S1x4000 32) (v23 : FVec F S128x4000 .bf16) (v38 v40 : BitVec 32) (g : Vec F S128x64 .f32) :
    ℕ → Vec F S128x64 .f32
  | 0 => g
  | k + 1 => if h : k < (k0_t1_loop v38 v40).trips then k0_pay4 v13 v23 v38 v40 ⟨k, h⟩ (maxIter v13 v23 v38 v40 g k)
      else maxIter v13 v23 v38 v40 g k

/-- The first segment id of a block. -/
abbrev segLo (x0 : Vec F S1x1x4000 .i32) : BitVec 32 := extractAt ![0, 0] (k0_pay2 (k0_pay13 x0)) inpos_S1x1_p0_0

/-- The last segment id of a block. -/
abbrev segHi (x0 : Vec F S1x1x4000 .i32) : BitVec 32 := extractAt ![0, 0] (k0_pay3 (k0_pay13 x0)) inpos_S1x1_p0_0

/-- The running maxima after a block. -/
def maxAll (x0 : Vec F S1x1x4000 .i32) (x1 : Vec F S4000x128 .f32) (x2 : Vec F S128x256 .bf16) (g : Vec F S128x64 .f32) :
    Vec F S128x64 .f32 :=
  maxIter (k0_pay13 x0) (k0_pay15 x1 x2) (segLo x0) (segHi x0) g (k0_t1_loop (segLo x0) (segHi x0)).trips

/-- The loop's maxima over ids and gated values that are the block's are `maxAll`'s. -/
theorem maxAll_of {v13 : IVec S1x4000 32} {v23 : FVec F S128x4000 .bf16} {x0 : Vec F S1x1x4000 .i32} {x1 : Vec F S4000x128 .f32}
    {x2 : Vec F S128x256 .bf16} {g g' : Vec F S128x64 .f32} (h13 : v13 = k0_pay13 x0) (h23 : v23 = k0_pay15 x1 x2) (hg : g' = g) :
    maxIter v13 v23 (extractAt ![0, 0] (k0_pay2 v13) inpos_S1x1_p0_0) (extractAt ![0, 0] (k0_pay3 v13) inpos_S1x1_p0_0) g'
      (k0_t1_loop (extractAt ![0, 0] (k0_pay2 v13) inpos_S1x1_p0_0) (extractAt ![0, 0] (k0_pay3 v13) inpos_S1x1_p0_0)).trips
      = maxAll x0 x1 x2 g := by
  subst h13 h23 hg; rfl

/-- Sums, counts and maxima. -/
abbrev St (F : FTy → Type) : Type := Vec F S128x64 .f32 × Vec F S1x64 .f32 × Vec F S128x64 .f32

/-- The three arrays as the first point sets them. -/
def initSt : St F := (k0_pay10, k0_pay11, k0_pay12)

/-- What a step makes of the three arrays, given the blocks of ids, nodes and weights. -/
def stepSt (x0 : Vec F S1x1x4000 .i32) (x1 : Vec F S4000x128 .f32) (x2 : Vec F S128x256 .bf16) (s : St F) : St F :=
  (k0_pay16 x1 x2 x0 s.1, k0_pay1 (k0_pay17 x0 s.2.1), maxAll x0 x1 x2 s.2.2)

/-- The output block: means in the left 128 columns, maxima in the right 128. -/
def outSt (s : St F) : Vec F S64x256 .f32 := fun i =>
  if h : (i 1).val < 128 then k0_pay8 s.1 s.2.1 (ix2 (i 0) ⟨(i 1).val, h⟩)
  else k0_pay9 s.2.2 s.2.1 (ix2 (i 0) ⟨(i 1).val - 128, by have : (i 1).val < 256 := (i 1).isLt; omega⟩)

/-- A buffer into which the means are stored at the left half and the maxima at the right half reads `outSt`. -/
theorem read_outSt (v : View sig .tc .vmem S64x256 .f32) (f : v.ty.Contents (Elt F)) {x5 x7 : Vec F S128x64 .f32}
    {x6 : Vec F S1x64 .f32} {s : St F} (h5 : x5 = s.1) (h6 : x6 = s.2.1) (h7 : x7 = s.2.2) :
    v.read (Elt F) (v.writes (Elt F) f
      [⟨Rect.unit ![0, 128] S64x128.size inb_S64x256_S64x128_0_128, k0_pay9 x7 x6⟩,
        ⟨Rect.unit ![0, 0] S64x128.size inb_S64x256_S64x128_0_0, k0_pay8 x5 x6⟩]) = outSt s := by
  subst h5 h6 h7
  funext y
  have y1 : (y 1).val < 256 := (y 1).isLt
  unfold outSt
  by_cases h : (y 1).val < 128
  · rw [dif_pos h, View.read_writes_cons_unit_of_not_mem v f _ _ _ y rfl 1 (Or.inl h)]
    exact View.read_writes_cons_unit_of_mem v f _ _ [] y (ix2 (y 0) ⟨(y 1).val, h⟩) rfl fun a => by
      match a with
      | ⟨0, _⟩ => show (y 0).val = 0 + (y 0).val; omega
      | ⟨1, _⟩ => show (y 1).val = 0 + (y 1).val; omega
  · rw [dif_neg h]
    exact View.read_writes_cons_unit_of_mem v f _ _ _ y (ix2 (y 0) ⟨(y 1).val - 128, by omega⟩) rfl fun a => by
      match a with
      | ⟨0, _⟩ => show (y 0).val = 0 + (y 0).val; omega
      | ⟨1, _⟩ => show (y 1).val = 128 + ((y 1).val - 128); omega

/-! ## The loop over a block's segments -/

section Loop

variable (c : Dev nD) (i : grid0.Coords) (arg1 : Memref sig .tc .vmem S1x1x4000 .i32) (harg1 : arg1.IsWhole)
  (arg2 : Memref sig .tc .vmem S4000x128 .f32) (harg2 : arg2.IsWhole) (arg3 : Memref sig .tc .vmem S128x256 .bf16)
  (harg3 : arg3.IsWhole) (arg4 : Memref sig .tc .vmem S64x256 .f32) (harg4 : arg4.IsWhole)
  (arg5 : Memref sig .tc .vmem S128x64 .f32) (harg5 : arg5.IsWhole) (arg6 : Memref sig .tc .vmem S1x64 .f32)
  (harg6 : arg6.IsWhole) (arg7 : Memref sig .tc .vmem S128x64 .f32) (harg7 : arg7.IsWhole)

set_option warn.classDefReducibility false in
/-- The loop by its invariant: before trip `k` the maxima's buffer reads `maxIter … k`. -/
@[sl_loop] def loopMax (bd : Option Variants.none.V) (E : Set ℕ) (v13 : IVec S1x4000 32) (v23 : FVec F S128x4000 .bf16)
    (v38 v40 : BitVec 32) (hw : k0_chk1 v38 v40) (G : BufTy.Contents (Elt F) arg7.view.ty) (init : BitVec 32) :
    LoopInv (M := 𝕄) Idealize.ShloMosaic.frame (wpE (defs₀ (F := F)) Variants.none (c : Thread nD τ) bd) E
      (k0_t1_loop v38 v40).lb (k0_t1_loop v38 v40).ub (k0_t1_loop v38 v40).st (k0_t1_ok v38 v40 hw) init
      (k0_t1_body (F := F) i arg1 harg1 arg2 harg2 arg3 harg3 arg4 harg4 arg5 harg5 arg6 harg6 arg7 harg7 v13 v23 v38 v40 hw) where
  inv k _ := iprop(∃ f, (arg7.view.loc (c : Thread nD τ) ↦[arg7.view.set]{fullShare} f)
    ∗ ⌜arg7.view.read (Elt F) f = maxIter v13 v23 v38 v40 (arg7.view.read (Elt F) G) k⌝)
  step k acc := by
    iintro ⟨%f, H, %hf⟩
    unfold k0_t1_body
    sl_exec
    sl_step
    iexists _
    isplitl [H]; · iexact H
    ipureintro
    rw [View.read_writes_full]
    have hk : k.val < (k0_t1_loop v38 v40).trips := k.isLt
    simp only [maxIter, dif_pos hk, ← hf]
    exact congrArg _ (View.readAt_full arg7.view f _)

/-- The condition under which the step sets the three arrays: the first grid point. -/
abbrev isFirst (i : grid0.Coords) : Prop :=
  (Scalar.cmpi .ne (Scalar.extui (Scalar.cmpi .eq (BitVec.ofNat 32 (i 0).val) 0#32)) 0#32) = 1#1

/-- The condition under which the step writes the output block: the last grid point. -/
abbrev isLast (i : grid0.Coords) : Prop := k0_cond2 i = 1#1

set_option maxHeartbeats 2000000 in
/-- The step at a grid point that is neither the first nor the last: the three arrays go from `s` to `stepSt … s`, the
    output block is left alone. -/
theorem body_mid (h0 : ¬isFirst i) (h1 : ¬isLast i) (x0 : Vec F S1x1x4000 .i32) (x1 : Vec F S4000x128 .f32) (x2 : Vec F S128x256 .bf16)
    (y : Vec F S64x256 .f32) (s : St F) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y
        ∗ owns (c : Thread nD τ) arg5 fullShare s.1 ∗ owns (c : Thread nD τ) arg6 fullShare s.2.1 ∗ owns (c : Thread nD τ) arg7 fullShare s.2.2
        ∗ (iprop(owns (c : Thread nD τ) arg1 fullShare x0 ∗ owns (c : Thread nD τ) arg2 fullShare x1 ∗ owns (c : Thread nD τ) arg3 fullShare x2
            ∗ owns (c : Thread nD τ) arg4 fullShare y
            ∗ owns (c : Thread nD τ) arg5 fullShare (stepSt x0 x1 x2 s).1 ∗ owns (c : Thread nD τ) arg6 fullShare (stepSt x0 x1 x2 s).2.1 ∗ owns (c : Thread nD τ) arg7 fullShare (stepSt x0 x1 x2 s).2.2) -∗ K ⟨⟩))
      ⊢ wp frame (wpE (defs₀ (F := F)) Variants.none c none) E
          (cc0__gated_readout_kernel i arg1 harg1 arg2 harg2 arg3 harg3 arg4 harg4 arg5 harg5 arg6 harg6 arg7 harg7) K := by
  simp only [cc0__gated_readout_kernel_eq_skeleton]; unfold cc0__gated_readout_kernel_skel
  simp only [k0_part1_eq_skeleton]
  unfold owns
  iintro ⟨⟨%f0, %hf0, H0⟩, ⟨%f1, %hf1, H1⟩, ⟨%f2, %hf2, H2⟩, ⟨%f3, %hf3, H3⟩, ⟨%g0, %hg0, S0⟩, ⟨%g1, %hg1, S1⟩, ⟨%g2, %hg2, S2⟩, Hk⟩
  sl_exec (disch := first | sl_exact h0 | sl_exact h1 | exact chk_all _ _)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [S0]
  · iexists _; isplitr; swap; · iexact S0
    ipureintro
    refine (View.read_writes_full arg5.view _ _ _ _).trans ?_
    rw [stepSt, ← hf0, ← hf1, ← hf2, ← hg0]
    show k0_pay16 _ _ _ _ = k0_pay16 _ _ _ _
    congr 1
    all_goals exact View.readAt_full _ _ _
  isplitl [S1]
  · iexists _; isplitr; swap; · iexact S1
    ipureintro
    refine (View.read_writes_full arg6.view _ _ _ _).trans ?_
    rw [stepSt, ← hf0, ← hg1]
    show k0_pay1 (k0_pay17 _ _) = k0_pay1 (k0_pay17 _ _)
    congr 2
    all_goals exact View.readAt_full _ _ _
  iexists _; isplitr; swap; · iexact S2
  ipureintro
  rw [stepSt, ← hf0, ← hf1, ← hf2, ← hg2]
  exact hL1.trans (maxAll_of (congrArg k0_pay13 (View.readAt_full _ _ _))
    (congrArg₂ k0_pay15 (View.readAt_full _ _ _) (View.readAt_full _ _ _)) rfl)

set_option maxHeartbeats 2000000 in
/-- The step at the first grid point: the three arrays, whatever they hold, are set to the step's of their initial values. -/
theorem body_first (h0 : isFirst i) (h1 : ¬isLast i) (x0 : Vec F S1x1x4000 .i32) (x1 : Vec F S4000x128 .f32) (x2 : Vec F S128x256 .bf16)
    (y : Vec F S64x256 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare y
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare y
            ∗ owns (c : Thread nD τ) arg5 fullShare (stepSt x0 x1 x2 initSt).1 ∗ owns (c : Thread nD τ) arg6 fullShare (stepSt x0 x1 x2 initSt).2.1 ∗ owns (c : Thread nD τ) arg7 fullShare (stepSt x0 x1 x2 initSt).2.2) -∗ K ⟨⟩))
      ⊢ wp frame (wpE (defs₀ (F := F)) Variants.none c none) E
          (cc0__gated_readout_kernel i arg1 harg1 arg2 harg2 arg3 harg3 arg4 harg4 arg5 harg5 arg6 harg6 arg7 harg7) K := by
  simp only [cc0__gated_readout_kernel_eq_skeleton]; unfold cc0__gated_readout_kernel_skel
  simp only [k0_part1_eq_skeleton]
  unfold owns
  iintro ⟨⟨%f0, %hf0, H0⟩, ⟨%f1, %hf1, H1⟩, ⟨%f2, %hf2, H2⟩, ⟨%f3, %hf3, H3⟩, ⟨%d0, %g0, -, S0⟩, ⟨%d1, %g1, -, S1⟩, ⟨%d2, %g2, -, S2⟩, Hk⟩
  sl_exec (disch := first | sl_exact h0 | sl_exact h1 | exact chk_all _ _)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [S0]
  · iexists _; isplitr; swap; · iexact S0
    ipureintro
    refine (View.read_writes_full arg5.view _ _ _ _).trans ?_
    rw [stepSt, ← hf0, ← hf1, ← hf2]
    show k0_pay16 _ _ _ _ = k0_pay16 _ _ _ _
    congr 1
    · exact View.readAt_full _ _ _
    · exact View.readAt_full _ _ _
    · exact View.readAt_full _ _ _
    · exact View.readCov_full _ _ _ _ _
  isplitl [S1]
  · iexists _; isplitr; swap; · iexact S1
    ipureintro
    refine (View.read_writes_full arg6.view _ _ _ _).trans ?_
    rw [stepSt, ← hf0]
    show k0_pay1 (k0_pay17 _ _) = k0_pay1 (k0_pay17 _ _)
    congr 2
    · exact View.readAt_full _ _ _
    · exact View.readCov_full _ _ _ _ _
  iexists _; isplitr; swap; · iexact S2
  ipureintro
  rw [stepSt, ← hf0, ← hf1, ← hf2]
  exact hL1.trans (maxAll_of (congrArg k0_pay13 (View.readAt_full _ _ _))
    (congrArg₂ k0_pay15 (View.readAt_full _ _ _) (View.readAt_full _ _ _))
    (View.read_writes_full arg7.view _ _ _ _))

set_option maxHeartbeats 2000000 in
/-- The step at the last grid point: the three arrays go from `s` to `stepSt … s`, the
    output block is written from them. -/
theorem body_last (h0 : ¬isFirst i) (h1 : isLast i) (x0 : Vec F S1x1x4000 .i32) (x1 : Vec F S4000x128 .f32) (x2 : Vec F S128x256 .bf16)
    (s : St F) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ owns (c : Thread nD τ) arg5 fullShare s.1 ∗ owns (c : Thread nD τ) arg6 fullShare s.2.1 ∗ owns (c : Thread nD τ) arg7 fullShare s.2.2
        ∗ (iprop(owns (c : Thread nD τ) arg1 fullShare x0 ∗ owns (c : Thread nD τ) arg2 fullShare x1 ∗ owns (c : Thread nD τ) arg3 fullShare x2
            ∗ owns (c : Thread nD τ) arg4 fullShare (outSt (stepSt x0 x1 x2 s))
            ∗ owns (c : Thread nD τ) arg5 fullShare (stepSt x0 x1 x2 s).1 ∗ owns (c : Thread nD τ) arg6 fullShare (stepSt x0 x1 x2 s).2.1 ∗ owns (c : Thread nD τ) arg7 fullShare (stepSt x0 x1 x2 s).2.2) -∗ K ⟨⟩))
      ⊢ wp frame (wpE (defs₀ (F := F)) Variants.none c none) E
          (cc0__gated_readout_kernel i arg1 harg1 arg2 harg2 arg3 harg3 arg4 harg4 arg5 harg5 arg6 harg6 arg7 harg7) K := by
  simp only [cc0__gated_readout_kernel_eq_skeleton]; unfold cc0__gated_readout_kernel_skel
  simp only [k0_part1_eq_skeleton]
  unfold owns
  iintro ⟨⟨%f0, %hf0, H0⟩, ⟨%f1, %hf1, H1⟩, ⟨%f2, %hf2, H2⟩, ⟨%d3, %f3, -, H3⟩, ⟨%g0, %hg0, S0⟩, ⟨%g1, %hg1, S1⟩, ⟨%g2, %hg2, S2⟩, Hk⟩
  sl_exec (disch := first | sl_exact h0 | sl_exact h1 | exact chk_all _ _)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro
    rw [stepSt, ← hf0, ← hf1, ← hf2, ← hg0, ← hg1, ← hg2]
    refine read_outSt arg4.view f3 ?_ ?_ ?_
    · refine (View.readCov_full _ _ _ _ _).trans ?_
      show k0_pay16 _ _ _ _ = k0_pay16 _ _ _ _
      congr 1
      all_goals exact View.readAt_full _ _ _
    · refine (View.readCov_full _ _ _ _ _).trans ?_
      show k0_pay1 (k0_pay17 _ _) = k0_pay1 (k0_pay17 _ _)
      congr 2
      all_goals exact View.readAt_full _ _ _
    · exact (View.readAt_full _ _ _).trans (hL1.trans (maxAll_of (congrArg k0_pay13 (View.readAt_full _ _ _))
        (congrArg₂ k0_pay15 (View.readAt_full _ _ _) (View.readAt_full _ _ _)) rfl))
  isplitl [S0]
  · iexists _; isplitr; swap; · iexact S0
    ipureintro
    refine (View.read_writes_full arg5.view _ _ _ _).trans ?_
    rw [stepSt, ← hf0, ← hf1, ← hf2, ← hg0]
    show k0_pay16 _ _ _ _ = k0_pay16 _ _ _ _
    congr 1
    all_goals exact View.readAt_full _ _ _
  isplitl [S1]
  · iexists _; isplitr; swap; · iexact S1
    ipureintro
    refine (View.read_writes_full arg6.view _ _ _ _).trans ?_
    rw [stepSt, ← hf0, ← hg1]
    show k0_pay1 (k0_pay17 _ _) = k0_pay1 (k0_pay17 _ _)
    congr 2
    all_goals exact View.readAt_full _ _ _
  iexists _; isplitr; swap; · iexact S2
  ipureintro
  rw [stepSt, ← hf0, ← hf1, ← hf2, ← hg2]
  exact hL1.trans (maxAll_of (congrArg k0_pay13 (View.readAt_full _ _ _))
    (congrArg₂ k0_pay15 (View.readAt_full _ _ _) (View.readAt_full _ _ _)) rfl)

end Loop

end Cert.KernelIdeal.Hand

end
-- ==== Proof.KernelIdealRun.lean ====
/-
  The whole run of the gated readout program `KernelIdeal`, for any float values.

  The three arrays between grid points are `stAt`; every execution ends with the arguments unchanged, all counters at
  zero and the pipeline's arrays as the proof data `dats` say (`run_main`); read at the arguments this is `unchanged`.
-/
module

public import proofs.«01_k».proof.Proof.KernelIdealBody
public import proofs.«01_k».proof.Proof.Gen.KernelIdeal.Launch
public import proofs.«01_k».proof.Proof.Gen.KernelIdeal.Points
public import Idealize.ShloMosaic.Lib.Quiescent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resource algebra of the proofs below. -/
local notation "𝕄" => MT nD τ sig Unit (Elt F) ℕ (UR sig nD τ) ℕ

variable (m : (ℓ : Loc nD τ sig) → Buf (Elt F) ℓ) (ρ : Dev nD → PrngReg)

/-! ## Which point is which -/

/-- A point sets the arrays exactly when it is point 0. -/
theorem isFirst_iff (t : Fin cfg0.N) : isFirst (grid0.coords t) ↔ t.val = 0 := by
  have ht : t.val < 25 := Nat.lt_of_lt_of_eq t.isLt N_0
  have e0 : (grid0.coords t 0).val = t.val / 1 % 25 := Pipeline.Grid.coords_val t 0 (by decide) rfl
  have h : isFirst (grid0.coords t) ↔ t.val % 25 = 0 := by
    simp only [isFirst, e0]
    word_cmp
  rw [h]; omega

/-- A point writes the output block exactly when it is point 24. -/
theorem isLast_iff (t : Fin cfg0.N) : isLast (grid0.coords t) ↔ t.val = 24 := by
  have ht : t.val < 25 := Nat.lt_of_lt_of_eq t.isLt N_0
  have e0 : (grid0.coords t 0).val = t.val / 1 % 25 := Pipeline.Grid.coords_val t 0 (by decide) rfl
  have h : isLast (grid0.coords t) ↔ t.val % 25 = 24 := by
    simp only [isLast, k0_cond2, e0]
    word_cmp
  rw [h]; omega

/-- Before the last point the output window is idle. -/
theorem idle_out : ∀ t : Fin cfg0.N, ¬isLast (grid0.coords t) → cfg0.idle 3 (grid0.coords t) = true := by decide +kernel

/-- Before the last point the output block is not written back. -/
theorem noFlush_out : ∀ t : Fin cfg0.N, ¬isLast (grid0.coords t) → (cfg0.win 3).flush t = false := by decide +kernel

/-- At the last point the output window is not idle. -/
theorem live_out : ∀ t : Fin cfg0.N, isLast (grid0.coords t) → cfg0.idle 3 (grid0.coords t) = false := by decide +kernel

/-! ## The three arrays between points -/

/-- Sums, counts and maxima after the first `n` points (before any: the initial values). -/
def stAt (c : Dev nD) : ℕ → St F
  | 0 => initSt
  | n + 1 => if h : n < cfg0.N then stepSt (iblk m c 0 ⟨n, h⟩) (iblk m c 1 ⟨n, h⟩) (iblk m c 2 ⟨n, h⟩) (stAt c n) else stAt c n

/-- After point `t`: the step of the arrays before it. -/
theorem stAt_succ (c : Dev nD) (t : Fin cfg0.N) :
    stAt m c (t.val + 1) = stepSt (iblk m c 0 t) (iblk m c 1 t) (iblk m c 2 t) (stAt m c t.val) := by
  rw [stAt, dif_pos t.isLt]

/-- The three scratch buffers, owned at the arrays `s`. -/
def ownsSt (c : Dev nD) (s : St F) : sProp 𝕄 :=
  iprop(owns (c : Thread nD τ) (Memref.whole cc0_scratch0 : Memref sig .tc .vmem S128x64 .f32) fullShare s.1
    ∗ owns (c : Thread nD τ) (Memref.whole cc0_scratch1 : Memref sig .tc .vmem S1x64 .f32) fullShare s.2.1
    ∗ owns (c : Thread nD τ) (Memref.whole cc0_scratch2 : Memref sig .tc .vmem S128x64 .f32) fullShare s.2.2)

/-- The launch's invariant names the three scratch buffers at some contents and the generator register. -/
theorem launch_inv (c : Dev nD) :
    (Pipeline.ΦA spec0 c : sProp 𝕄)
      = iprop(iprop((∃ d, owns (c : Thread nD τ) (Memref.whole cc0_scratch0 : Memref sig .tc .vmem S128x64 .f32) fullShare d)
          ∗ (∃ d, owns (c : Thread nD τ) (Memref.whole cc0_scratch1 : Memref sig .tc .vmem S1x64 .f32) fullShare d)
          ∗ (∃ d, owns (c : Thread nD τ) (Memref.whole cc0_scratch2 : Memref sig .tc .vmem S128x64 .f32) fullShare d))
        ∗ (∃ r, prngReg c r)) := by
  unfold Pipeline.ΦA; rw [scopedRest0_eq]; simp only [owns_whole]; try rfl

/-- The invariant before point `n`: the launch's before point 0, then the scratch buffers at `stAt`. -/
def inv (c : Dev nD) (n : ℕ) (_ : n ≤ cfg0.N) : sProp 𝕄 :=
  match n with
  | 0 => Pipeline.ΦA spec0 c
  | n + 1 => iprop(ownsSt c (stAt m c (n + 1)) ∗ (∃ r, prngReg c r))

/-- The invariant before a point that is not point 0. -/
theorem inv_pos (c : Dev nD) (n : ℕ) (h : n ≤ cfg0.N) (hz : n ≠ 0) :
    inv m c n h = iprop(ownsSt c (stAt m c n) ∗ (∃ r, prngReg c r)) := by
  cases n with
  | zero => exact absurd rfl hz
  | succ n => rfl

/-- The invariant before point 0. -/
theorem inv_zero (c : Dev nD) (n : ℕ) (h : n ≤ cfg0.N) (hz : n = 0) : inv m c n h = Pipeline.ΦA spec0 c := by
  subst hz; rfl

/-! ## The proof data -/

/-- Each input's buffer holds its block, the output's holds the block made of the arrays after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outSt (stAt m c (t.val + 1))
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]

theorem inv_at (c : Dev nD) (t : Fin cfg0.N) : (dats m 0 c).Φ t.castSucc = inv m c t.val (Nat.le_of_lt t.isLt) := by
  dsimp only [dats]; exact Pipeline.Dat.Φ_castSucc (inv m c) t

theorem after_ids (c : Dev nD) (t : Fin cfg0.N) : (dats m 0 c).after 0 t = iblk m c 0 t := by dsimp only [dats]
theorem after_nodes (c : Dev nD) (t : Fin cfg0.N) : (dats m 0 c).after 1 t = iblk m c 1 t := by dsimp only [dats]
theorem after_weights (c : Dev nD) (t : Fin cfg0.N) : (dats m 0 c).after 2 t = iblk m c 2 t := by dsimp only [dats]
theorem after_out (c : Dev nD) (t : Fin cfg0.N) : (dats m 0 c).after 3 t = outSt (stAt m c (t.val + 1)) := by dsimp only [dats]

theorem before_ids (c : Dev nD) (t : Fin cfg0.N) (d) : (dats m 0 c).before 0 t d = iblk m c 0 t :=
  before0_0_of m (dats m 0 c) (A_eq m c 0) (after_ids m c) t d
theorem before_nodes (c : Dev nD) (t : Fin cfg0.N) (d) : (dats m 0 c).before 1 t d = iblk m c 1 t :=
  before0_1_of m (dats m 0 c) (A_eq m c 1) (after_nodes m c) t d
theorem before_weights (c : Dev nD) (t : Fin cfg0.N) (d) : (dats m 0 c).before 2 t d = iblk m c 2 t :=
  before0_2_of m (dats m 0 c) (A_eq m c 2) (after_weights m c) t d

/-- An input window is never idle, so the body must hand its buffer back at the block. -/
theorem leaves_ids (c : Dev nD) (t : Fin cfg0.N) :
    (dats m 0 c).leavesExact 0 t = owns (c : Thread nD τ) (win0_0.stage (cfg0.slots t 0)) fullShare (iblk m c 0 t) := by
  rw [← after_ids]
theorem leaves_nodes (c : Dev nD) (t : Fin cfg0.N) :
    (dats m 0 c).leavesExact 1 t = owns (c : Thread nD τ) (win0_1.stage (cfg0.slots t 1)) fullShare (iblk m c 1 t) := by
  rw [← after_nodes]
theorem leaves_weights (c : Dev nD) (t : Fin cfg0.N) :
    (dats m 0 c).leavesExact 2 t = owns (c : Thread nD τ) (win0_2.stage (cfg0.slots t 2)) fullShare (iblk m c 2 t) := by
  rw [← after_weights]
/-- At the last point the body must hand the output buffer back at the block made of the arrays. -/
theorem leaves_out (c : Dev nD) (t : Fin cfg0.N) (h : isLast (grid0.coords t)) :
    (dats m 0 c).leavesExact 3 t
      = owns (c : Thread nD τ) (win0_3.stage (cfg0.slots t 3)) fullShare (outSt (stAt m c (t.val + 1))) := by
  rw [← after_out]; unfold Dat.leavesExact; rw [live_out t h]

/-! ## The body at a point -/

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- What the body returns at point `t`. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t)

set_option maxHeartbeats 4000000 in
/-- The body at any point takes `pre` to `post`: by the triple of the first, the last or an inner point. -/
theorem body_sound (c : Dev nD) (t : Fin cfg0.N) :
    pre m c t ⊢ wp frame (wpE (defs₀ (F := F)) Variants.none c none) Set.univ (bodyAt0 t) (fun _ => post m c t) := by
  have hN : t.val < 25 := lt_of_lt_of_eq t.isLt N_0
  unfold pre post bodyAt0
  simp only [before_ids, before_nodes, before_weights]
  rw [show (dats m 0 c).owesAt () t.succ = (dats m 0 c).owesAt () t.castSucc from rfl,
    show (dats m 0 c).Φ t.succ = inv m c (t.val + 1) t.isLt from rfl, inv_pos m c (t.val + 1) t.isLt (Nat.succ_ne_zero _),
    leaves_ids, leaves_nodes, leaves_weights, inv_at, stAt_succ]
  unfold ownsSt
  by_cases h0 : t.val = 0
  · have hl : ¬isLast (grid0.coords t) := fun h => by have := (isLast_iff t).mp h; omega
    rw [inv_zero m c _ _ h0, launch_inv, Dat.leavesExact_idle (dats m 0 c) 3 t (idle_out t hl) (noFlush_out t hl),
      show stAt m c t.val = initSt from by rw [h0]; rfl]
    iintro ⟨⟨⟨S0, S1, S2⟩, Hg⟩, Ho, ⟨%d0, H0⟩, ⟨%d1, H1⟩, ⟨%d2, H2⟩, ⟨%d3, H3⟩⟩
    iapply (body_first c (grid0.coords t) _ _ _ _ _ _ _ _ _ _ _ _ _ _ ((isFirst_iff t).mpr h0) hl
      (iblk m c 0 t) (iblk m c 1 t) (iblk m c 2 t) _ Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨H0, H1, H2, H3, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    iexists _; iexact H3
  · have hf : ¬isFirst (grid0.coords t) := fun h => h0 ((isFirst_iff t).mp h)
    rw [inv_pos m c _ _ h0]
    unfold ownsSt
    by_cases h1 : t.val = 24
    · have hl : isLast (grid0.coords t) := (isLast_iff t).mpr h1
      rw [leaves_out m c t hl, stAt_succ]
      iintro ⟨⟨⟨S0, S1, S2⟩, Hg⟩, Ho, ⟨%d0, H0⟩, ⟨%d1, H1⟩, ⟨%d2, H2⟩, ⟨%d3, H3⟩⟩
      iapply (body_last c (grid0.coords t) _ _ _ _ _ _ _ _ _ _ _ _ _ _ hf hl
        (iblk m c 0 t) (iblk m c 1 t) (iblk m c 2 t) (stAt m c t.val) Set.univ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      iexact H3
    · have hl : ¬isLast (grid0.coords t) := fun h => h1 ((isLast_iff t).mp h)
      rw [Dat.leavesExact_idle (dats m 0 c) 3 t (idle_out t hl) (noFlush_out t hl)]
      iintro ⟨⟨⟨S0, S1, S2⟩, Hg⟩, Ho, ⟨%d0, H0⟩, ⟨%d1, H1⟩, ⟨%d2, H2⟩, ⟨%d3, H3⟩⟩
      iapply (body_mid c (grid0.coords t) _ _ _ _ _ _ _ _ _ _ _ _ _ _ hf hl
        (iblk m c 0 t) (iblk m c 1 t) (iblk m c 2 t) _ (stAt m c t.val) Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [S0 S1 S2 Hg]
      · isplitl [S0 S1 S2]
        · isplitl [S0]; · iexact S0
          isplitl [S1]; · iexact S1
          iexact S2
        iexact Hg
      isplitl [Ho]; · iexact Ho
      isplitl [H0]; · iexact H0
      isplitl [H1]; · iexact H1
      isplitl [H2]; · iexact H2
      iexists _; iexact H3

/-- The pipeline library's obligation on the body, at every point. -/
theorem obligation (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t from by unfold defs₀; rw [Defs.onTc_tc]]
  exact triple_restated (body_sound m c t) rfl .rfl fun _ => .rfl

/-- The launch gives the invariant before point 0. -/
theorem inv_in (c : Dev nD) : Pipeline.ΦA spec0 c ⊢ (dats m 0 c).Φ 0 := by
  rw [show (dats m 0 c).Φ 0 = inv m c 0 (Nat.zero_le _) from rfl, inv_zero m c 0 _ rfl]

/-- The invariant after the last point gives the launch's back. -/
theorem inv_out (c : Dev nD) : (dats m 0 c).Φ (Fin.last cfg0.N) ⊢ Pipeline.ΦA spec0 c := by
  have hn : (Fin.last cfg0.N).val ≠ 0 := by rw [Fin.val_last]; have : cfg0.N = 25 := N_0; omega
  rw [show (dats m 0 c).Φ (Fin.last cfg0.N) = inv m c (Fin.last cfg0.N).val (Nat.le_of_lt_succ (Fin.last cfg0.N).isLt) from rfl,
    inv_pos m c _ _ hn, launch_inv]
  unfold ownsSt
  iintro ⟨⟨S0, S1, S2⟩, Hg⟩
  isplitl [S0 S1 S2]
  · isplitl [S0]; · iexists _; iexact S0
    isplitl [S1]; · iexists _; iexact S1
    iexists _; iexact S2
  iexact Hg

/-! ## The run -/

set_option backward.isDefEq.respectTransparency.types false in
/-- From any memory with zero counters every weakly fair execution terminates, with every array of the pipeline as `dats`
    says and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m)
    (hout := inv_out m)

/-- The arguments stay as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) ((θ_run defs _ _).mono (fun _ h => h.1) (run_main m ρ))

end Cert.KernelIdeal.Hand

end
-- ==== Proof.Frames.lean ====
/-
  The claims that every program leaves its arguments as they were and ends with its counters at zero.
-/
module

public import proofs.«01_k».proof.Defs
public import proofs.«01_k».proof.Proof.KernelRun
public import proofs.«01_k».proof.Proof.KernelIdealRun
public import proofs.«01_k».proof.Proof.Gen.Pre_inputs_relied_on
public import proofs.«01_k».proof.Proof.Gen.ReferenceIdeal
public import proofs.«01_k».proof.Proof.Gen.ReferenceIdeal.Run
public import Idealize.ShloMosaic.Lib.Claim
public import Idealize.ShloMosaic.Lib.Quiescent

@[expose] public section

set_option maxRecDepth 16384

noncomputable section

namespace Cert.Frames

open Idealize.ShloMosaic Idealize.SL.Sem

/-- The kernel as compiled, over bit patterns, leaves its arguments unchanged and its counters at zero. -/
theorem kernel : Cert.quiescent_Kernel (hKernel := Cert.Kernel.Gen.facts) := fun m ρ _ =>
  θ_run_and (Cert.Kernel.Hand.unchanged (F := Bits) m ρ)
    ((θ_run Cert.Kernel.defs _ _).mono (fun _ h => h.2) (Cert.Kernel.Hand.run_main (F := Bits) m ρ))

/-- The kernel over the extended reals leaves its arguments unchanged and its counters at zero, from any memory. -/
theorem ideal_any (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  θ_run_and (Cert.KernelIdeal.Hand.unchanged (F := Ideal) m ρ)
    ((θ_run Cert.KernelIdeal.defs _ _).mono (fun _ h => h.2) (Cert.KernelIdeal.Hand.run_main (F := Ideal) m ρ))

/-- The claim of the kernel over the extended reals without a precondition. -/
theorem ideal : Cert.quiescent_KernelIdeal (hKernelIdeal := Cert.KernelIdeal.Gen.facts) := fun m ρ _ => ideal_any m ρ

/-- The claim of the kernel over the extended reals on the inputs it relies on. -/
theorem ideal_pre : Cert.quiescent_KernelIdeal_pre_inputs_relied_on (hKernelIdeal := Cert.KernelIdeal.Gen.facts)
    (hPre_inputs_relied_on := Cert.Pre_inputs_relied_on.Gen.facts) := fun m ρ _ => ideal_any m ρ

/-- The claim of the reference without a precondition. -/
theorem reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The claim of the reference on the inputs it relies on. -/
theorem reference_pre : Cert.quiescent_ReferenceIdeal_pre_inputs_relied_on
    (hReferenceIdeal := Cert.ReferenceIdeal.Gen.facts) (hPre_inputs_relied_on := Cert.Pre_inputs_relied_on.Gen.facts) :=
  fun m ρ _ => reference m ρ trivial

end Cert.Frames

end
-- ==== Proof.Scalars.lean ====
/-
  The scalar facts of the gated readout, over the extended reals: the sigmoid written through the hyperbolic tangent, the
  gate as a real number, sums and maxima of prefixes, and the maximum seen only above a level.
-/
module

public import Idealize.ShloMosaic.PureOps.Ideal.Laws
public import Idealize.ShloMosaic.Lib.IdealHost

@[expose] public section

noncomputable section

namespace Cert.Readout

open Idealize.ShloMosaic
open scoped BigOperators

/-- The real number one half, as an extended real. -/
def half : EReal := ((1 / 2 : ℝ) : EReal)

/-- The f32 pattern of one half. -/
theorem ofBits_half : Ideal.ofBits .f32 0x3F000000#32 = half := by
  unfold half
  simp [Ideal.ofBits, Ideal.ieee, -EReal.coe_mul]; norm_num

/-- The f32 pattern of minus infinity. -/
theorem ofBits_bot_f32 : Ideal.ofBits .f32 0xFF800000#32 = ⊥ := by
  simp [Ideal.ofBits, Ideal.ieee]

/-- The bf16 pattern of minus infinity. -/
theorem ofBits_bot_bf16 : Ideal.ofBits .bf16 0xFF80#16 = ⊥ := by
  simp [Ideal.ofBits, Ideal.ieee]

/-- The level below which the running maximum does not matter: minus three. -/
def level : EReal := ((-3 : ℝ) : EReal)

/-- The most negative f32 lies below the level. -/
theorem lowest_f32_le : Ideal.ofBits .f32 0xFF7FFFFF#32 ≤ level := by
  unfold level
  simp [Ideal.ofBits, Ideal.ieee, -EReal.coe_mul, -EReal.coe_neg]
  norm_num

/-- The fill value of the masked lanes lies below the level. -/
theorem fill_le : Ideal.ofBits .f32 0xFF7F0000#32 ≤ level := by
  unfold level
  simp [Ideal.ofBits, Ideal.ieee, -EReal.coe_mul, -EReal.coe_neg]
  norm_num

theorem exp_bot : Ideal.exp ⊥ = 0 := rfl
theorem exp_top : Ideal.exp ⊤ = ⊤ := rfl
theorem tanh_bot : Ideal.tanh ⊥ = ((-1 : ℝ) : EReal) := by rfl
theorem tanh_top : Ideal.tanh ⊤ = ((1 : ℝ) : EReal) := by rfl

/-- The logistic function at minus infinity. -/
theorem logistic_bot : Ideal.div 1 (1 + Ideal.exp (-⊥)) = ((0 : ℝ) : EReal) := by
  rw [EReal.neg_bot, exp_top, show (1 : EReal) + ⊤ = ⊤ from EReal.add_top_of_ne_bot (EReal.coe_ne_bot 1)]
  unfold Ideal.div
  rw [if_neg (by simp)]; simp

/-- The logistic function at plus infinity. -/
theorem logistic_top : Ideal.div 1 (1 + Ideal.exp (-⊤)) = ((1 : ℝ) : EReal) := by
  rw [EReal.neg_top, exp_bot, add_zero]
  unfold Ideal.div
  rw [if_neg (by simp)]; simp

/-- The hyperbolic tangent of an extended real, a real number. -/
def th (x : EReal) : ℝ := (Ideal.tanh x).toReal

/-- The logistic function of an extended real, a real number. -/
def sg (x : EReal) : ℝ := (Ideal.div 1 (1 + Ideal.exp (-x))).toReal

/-- `Ideal.tanh` is real. -/
theorem tanh_eq (x : EReal) : Ideal.tanh x = ((th x : ℝ) : EReal) := by
  unfold th
  induction x using EReal.rec with
  | bot => rfl
  | top => rfl
  | coe r => rfl

/-- The logistic function at a real number. -/
theorem div_exp_coe (r : ℝ) :
    Ideal.div 1 (1 + Ideal.exp (-(r : EReal))) = (((1 + Real.exp (-r))⁻¹ : ℝ) : EReal) := by
  have h : (1 : EReal) + Ideal.exp (-(r : EReal)) = ((1 + Real.exp (-r) : ℝ) : EReal) := by
    rw [← EReal.coe_neg]; rfl
  have hp : (0 : ℝ) < 1 + Real.exp (-r) := by positivity
  rw [h]
  unfold Ideal.div
  rw [if_neg (by exact_mod_cast hp.ne'), one_mul, EReal.coe_inv]

/-- The logistic function is real. -/
theorem logistic_eq (x : EReal) : Ideal.div 1 (1 + Ideal.exp (-x)) = ((sg x : ℝ) : EReal) := by
  unfold sg
  induction x using EReal.rec with
  | bot => rw [logistic_bot]; rfl
  | top => rw [logistic_top]; rfl
  | coe r => rw [div_exp_coe]; rfl

/-- The hyperbolic tangent at half an argument, through the logistic function. -/
theorem th_half (x : EReal) : th (half * x) = 2 * sg x - 1 := by
  unfold half
  induction x using EReal.rec with
  | bot =>
    rw [EReal.coe_mul_bot_of_pos (by norm_num)]
    unfold th sg
    rw [logistic_bot, tanh_bot, EReal.toReal_coe, EReal.toReal_coe]
    norm_num
  | top =>
    rw [EReal.coe_mul_top_of_pos (by norm_num)]
    unfold th sg
    rw [logistic_top, tanh_top, EReal.toReal_coe]
    norm_num
  | coe r =>
    have h1 : sg (r : EReal) = (1 + Real.exp (-r))⁻¹ := by
      unfold sg; rw [div_exp_coe]; rfl
    have h2 : th (((1 / 2 : ℝ) : EReal) * (r : EReal)) = Real.tanh (1 / 2 * r) := by
      unfold th; rw [← EReal.coe_mul]; rfl
    have e : Real.exp (-r) = (Real.exp (1 / 2 * r))⁻¹ * (Real.exp (1 / 2 * r))⁻¹ := by
      rw [← Real.exp_neg, ← Real.exp_add]; congr 1; ring
    have hp := Real.exp_pos (1 / 2 * r)
    rw [h1, h2, Real.tanh_eq_sinh_div_cosh, Real.sinh_eq, Real.cosh_eq, e, Real.exp_neg]
    field_simp
    ring

/-- The hyperbolic tangent lies between minus one and one. -/
theorem abs_th_le (x : EReal) : |th x| ≤ 1 := by
  induction x using EReal.rec with
  | bot => unfold th; rw [tanh_bot, EReal.toReal_coe]; norm_num
  | top => unfold th; rw [tanh_top, EReal.toReal_coe]; norm_num
  | coe r =>
    show |Real.tanh r| ≤ 1
    exact abs_le.2 ⟨(Real.neg_one_lt_tanh r).le, (Real.tanh_lt_one r).le⟩

/-- One half distributes over a finite sum. -/
theorem half_mul_sum {ι : Type} (s : Finset ι) (f : ι → EReal) : half * ∑ i ∈ s, f i = ∑ i ∈ s, half * f i := by
  classical
  have h0 : (0 : EReal) ≤ half := by unfold half; exact_mod_cast (by norm_num : (0 : ℝ) ≤ 1 / 2)
  induction s using Finset.induction_on with
  | empty => simp
  | insert a s ha ih =>
    rw [Finset.sum_insert ha, Finset.sum_insert ha,
      EReal.left_distrib_of_nonneg_of_ne_top h0 (EReal.coe_ne_top _), ih]

/-- Twice the gated value: the kernel's product and sum of hyperbolic tangents. -/
theorem gated_eq (a b : EReal) :
    Ideal.tanh b + Ideal.tanh b * Ideal.tanh (half * a) = ((2 * (sg a * th b) : ℝ) : EReal) := by
  rw [tanh_eq, tanh_eq, th_half, ← EReal.coe_mul, ← EReal.coe_add]
  congr 1; ring

/-- Twice the gated value is at least minus two. -/
theorem neg_two_le (a b : EReal) : -2 ≤ 2 * (sg a * th b) := by
  have h1 := abs_le.1 (abs_th_le (half * a))
  have h2 := abs_le.1 (abs_th_le b)
  rw [th_half] at h1
  have hs : 0 ≤ sg a := by linarith
  have hs1 : sg a ≤ 1 := by linarith
  nlinarith

/-- A sum of real numbers, taken among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Half of a doubled real. -/
theorem half_mul_two (r : ℝ) : half * ((2 * r : ℝ) : EReal) = (r : EReal) := by
  unfold half; rw [← EReal.coe_mul]; congr 1; ring

/-- The greatest of the values of `f` at the natural numbers below `n`. -/
def top (n : ℕ) (f : ℕ → EReal) : EReal := (Finset.range n).sup f

/-- The greatest value below `a + b` is the greater of those below `a` and in the `b` numbers from `a`. -/
theorem top_add (a b : ℕ) (f : ℕ → EReal) : top (a + b) f = max (top a f) (top b fun l => f (a + l)) := by
  unfold top
  apply le_antisymm
  · refine Finset.sup_le fun n hn => ?_
    rw [Finset.mem_range] at hn
    rcases Nat.lt_or_ge n a with h | h
    · exact le_max_of_le_left (Finset.le_sup (f := f) (Finset.mem_range.2 h))
    · refine le_max_of_le_right ?_
      have := Finset.le_sup (f := fun l => f (a + l)) (Finset.mem_range.2 (show n - a < b by omega))
      rwa [show a + (n - a) = n by omega] at this
  · refine max_le (Finset.sup_le fun n hn => ?_) (Finset.sup_le fun n hn => ?_)
    · rw [Finset.mem_range] at hn
      exact Finset.le_sup (f := f) (Finset.mem_range.2 (by omega))
    · rw [Finset.mem_range] at hn
      exact Finset.le_sup (f := f) (Finset.mem_range.2 (show a + n < a + b by omega))

/-- A fold of `max` from minus infinity over the numbers below `n`. -/
theorem fold_max_eq (n : ℕ) (f : ℕ → EReal) :
    Finset.fold max ⊥ (fun x : Fin n => f x.val) Finset.univ = top n f := by
  show Finset.univ.sup (fun x : Fin n => f x.val) = _
  unfold top
  apply le_antisymm
  · exact Finset.sup_le fun x _ => Finset.le_sup (f := f) (Finset.mem_range.2 x.isLt)
  · exact Finset.sup_le fun x hx => Finset.le_sup (f := fun x : Fin n => f x.val) (Finset.mem_univ ⟨x, Finset.mem_range.1 hx⟩)

/-- A value as seen above the level. -/
def cap (x : EReal) : EReal := max x level

/-- Seen above the level, a maximum is the maximum of what is seen. -/
theorem cap_max (a b : EReal) : cap (max a b) = max (cap a) (cap b) := by
  unfold cap; rw [max_max_max_comm, max_self]

/-- What lies below the level is not seen. -/
theorem cap_of_le {a : EReal} (h : a ≤ level) : cap a = level := max_eq_right h

/-- The level is below everything seen. -/
theorem level_le_cap (a : EReal) : level ≤ cap a := le_max_right _ _

/-- What exceeds the level is seen as it is. -/
theorem eq_of_cap_eq {a b : EReal} (h : cap a = cap b) (hb : level < b) : a = b := by
  have hb' : cap b = b := max_eq_left hb.le
  rw [hb'] at h
  unfold cap at h
  rcases le_total a level with ha | ha
  · rw [max_eq_right ha] at h; exact absurd h hb.ne
  · rwa [max_eq_left ha] at h

/-- Seen above the level, a fill below it may replace minus infinity in a greatest value. -/
theorem cap_top_fill (n : ℕ) (f : ℕ → EReal) (p : ℕ → Prop) [DecidablePred p] {fill : EReal} (h : fill ≤ level) :
    cap (top n fun x => if p x then f x else fill) = cap (top n fun x => if p x then f x else ⊥) := by
  unfold cap top
  apply le_antisymm
  · refine max_le (Finset.sup_le fun x hx => ?_) (le_max_right _ _)
    by_cases hp : p x
    · refine le_max_of_le_left ?_
      rw [if_pos hp]
      have := Finset.le_sup (f := fun x => if p x then f x else ⊥) hx
      simpa [hp] using this
    · rw [if_neg hp]; exact le_max_of_le_right h
  · refine max_le (Finset.sup_le fun x hx => ?_) (le_max_right _ _)
    by_cases hp : p x
    · refine le_max_of_le_left ?_
      rw [if_pos hp]
      have := Finset.le_sup (f := fun x => if p x then f x else fill) hx
      simpa [hp] using this
    · rw [if_neg hp]; exact bot_le

/-- A real number that exceeds the level. -/
theorem level_lt_coe {r : ℝ} (h : -2 ≤ r) : level < (r : EReal) := by
  unfold level; exact_mod_cast (by linarith : (-3 : ℝ) < r)

/-- One half times a greatest value is the greatest of the halves. -/
theorem half_mul_top (n : ℕ) (f : ℕ → EReal) (g : ℕ → EReal) (h : ∀ x, x < n → half * f x = g x) :
    half * top n f = top n g := by
  have h0 : (0 : EReal) ≤ half := by unfold half; exact_mod_cast (by norm_num : (0 : ℝ) ≤ 1 / 2)
  unfold top
  induction n with
  | zero =>
    simp only [Finset.range_zero, Finset.sup_empty]
    exact EReal.coe_mul_bot_of_pos (by norm_num)
  | succ n ih =>
    have hm : Monotone fun x : EReal => half * x := fun a b hab => mul_le_mul_of_nonneg_left hab h0
    rw [Finset.range_add_one, Finset.sup_insert, Finset.sup_insert, ← ih fun x hx => h x (by omega), ← h n (by omega)]
    exact hm.map_max

end Cert.Readout

end
-- ==== Proof.KernelIdealBlocks.lean ====
/-
  The arrays of `KernelIdeal` after the run, and the blocks its body reads, in terms of the arguments.
-/
module

public import proofs.«01_k».proof.Proof.KernelIdealRun
public import proofs.«01_k».proof.Proof.Scalars
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Cert.Readout
open Idealize.SL.Sem
open Idealize.ShloMosaic.Pipeline (Dat Cfg Window)

variable (m : (ℓ : Loc nD τ sig) → Buf (Elt Ideal) ℓ) (ρ : Dev nD → PrngReg)

/-- The last point. -/
def lastPt : Fin cfg0.N := ⟨24, Nat.lt_of_lt_of_eq (by decide : 24 < 25) N_0.symm⟩

/-- Which block each window is at, at a point. -/
theorem index_at : ∀ t : Fin cfg0.N, win0_0.index t = ![t.val, 0, 0] ∧ win0_1.index t = ![t.val, 0] ∧ win0_2.index t = ![0, 0]
    ∧ win0_3.index t = ![0, 0] :=
  (by decide +kernel : ∀ t : Fin grid0.N, _)

/-- After the run the result array is what the last point computes from the arrays carried to it. -/
theorem final_out (c : Dev nD) : (dats m 0 c).arrAt 3 cfg0.N = outSt (stAt m c 25) := by
  refine (dats m 0 c).arrAt_eq_of_after_last 3 lastPt (by decide +kernel) _ fun j => ?_
  blk_simp
  rw [after_out]
  rfl

/-- The segment ids as the region finds them: the ids in rows of 4000. -/
theorem V_ids_eq (c : Dev nD) :
    V m c main_call0_v0 = shapeCast S25x1x4000 (m ((c : Thread nD τ).loc main_arg1)) shapeCasts_S100000_S25x1x4000 := by
  unfold V
  simp only [hostOps0, StableHlo.TRef.ternary, StableHlo.TRef.unary, StableHlo.TRef.binary, StableHlo.TRef.nullary, StableHlo.TRef.reshape, StableHlo.TRef.toBuf, StableHlo.TRef.ofBuf, cast_eq]
  after_results_simp <;> rfl

/-- The weights as the region finds them: half of `Wg` beside `Wf`. -/
theorem V_weights_eq (c : Dev nD) :
    V m c main_call0_v4 = truncf .bf16 (concatenate S128x256 1 [
      ⟨S128x128, mulf (broadcastInDim S128x128 ![] bcast_S_S128x128 (constant (F := Ideal) S_ .f32 0x3F000000#32)) (m ((c : Thread nD τ).loc main_arg3))⟩,
      ⟨S128x128, (m ((c : Thread nD τ).loc main_arg5))⟩] concatenates_S128x128_S128x128_S128x256_d1) bitsLt_bf16_f32 := by
  unfold V
  simp only [hostOps0, StableHlo.TRef.ternary, StableHlo.TRef.unary, StableHlo.TRef.binary, StableHlo.TRef.nullary, StableHlo.TRef.reshape, StableHlo.TRef.toBuf, StableHlo.TRef.ofBuf, cast_eq]
  after_results_simp <;> rfl

/-- The block of segment ids at a point. -/
theorem iblk_ids (c : Dev nD) (t : Fin cfg0.N) (l : Fin 4000) (h : t.val * 4000 + l.val < 100000) :
    (iblk m c 0 t : Vec Ideal S1x1x4000 .i32) (ix3 0 0 l) = m ((c : Thread nD τ).loc main_arg1) (ix1 ⟨t.val * 4000 + l.val, h⟩) := by
  have e : (iblk m c 0 t : Vec Ideal S1x1x4000 .i32) (ix3 0 0 l) = V m c main_call0_v0 (ix3 ⟨t.val, by omega⟩ 0 l) := by
    blk_ext! [iblk, index_at t]
  rw [e, V_ids_eq]
  pointwise []

/-- The block of node features at a point. -/
theorem iblk_nodes (c : Dev nD) (t : Fin cfg0.N) (l : Fin 4000) (k : Fin 128) (h : t.val * 4000 + l.val < 100000) :
    (iblk m c 1 t : Vec Ideal S4000x128 .f32) (ix2 l k) = m ((c : Thread nD τ).loc main_arg0) (ix2 ⟨t.val * 4000 + l.val, h⟩ k) := by
  rw [← V_main_arg0 m c]
  blk_ext! [iblk, index_at t]

/-- The weights at a point are the whole of them. -/
theorem iblk_weights (c : Dev nD) (t : Fin cfg0.N) (k : Fin 128) (j : Fin 256) :
    (iblk m c 2 t : Vec Ideal S128x256 .bf16) (ix2 k j) = V m c main_call0_v4 (ix2 k j) := by
  blk_ext! [iblk, index_at t]

/-- The left half of the weights is half of `Wg`. -/
theorem iblk_left (c : Dev nD) (t : Fin cfg0.N) (k j : Fin 128) :
    (iblk m c 2 t : Vec Ideal S128x256 .bf16) (ix2 k ⟨j.val, by omega⟩) = half * m ((c : Thread nD τ).loc main_arg3) (ix2 k j) := by
  rw [iblk_weights, V_weights_eq]
  pointwise []
  rw [ofBits_half]

/-- The right half of the weights is `Wf`. -/
theorem iblk_right (c : Dev nD) (t : Fin cfg0.N) (k j : Fin 128) :
    (iblk m c 2 t : Vec Ideal S128x256 .bf16) (ix2 k ⟨128 + j.val, by omega⟩) = m ((c : Thread nD τ).loc main_arg5) (ix2 k j) := by
  rw [iblk_weights, V_weights_eq]
  pointwise []

end Cert.KernelIdeal.Hand

end
-- ==== Proof.Reference.lean ====
/-
  The reference's result at one index, over the extended reals.
-/
module

public import proofs.«01_k».proof.Proof.Scalars
public import proofs.«01_k».proof.Proof.Gen.ReferenceIdeal
public import proofs.«01_k».proof.Proof.Gen.ReferenceIdeal.Run
public import Idealize.ShloMosaic.Lib.Pointwise
public import Idealize.ShloMosaic.Lib.Routing.OpsPair

@[expose] public section

set_option maxRecDepth 16384

noncomputable section

namespace Cert.Readout

open Cert.ReferenceIdeal Cert.ReferenceIdeal.Gen
open Idealize.ShloMosaic
open scoped BigOperators

variable (nodes : FVec Ideal S100000x128 .f32) (ids : IVec S100000 32) (mask : FVec Ideal S100000 .f32)
  (Wg : FVec Ideal S128x128 .f32) (bg : FVec Ideal S128 .f32) (Wf : FVec Ideal S128x128 .f32) (bf : FVec Ideal S128 .f32)
  (G : FVec Ideal S100000x128 .f32)

/-- The gated node features of the reference. -/
def refG : FVec Ideal S100000x128 .f32 :=
  (mulf (mulf (Host.divf (broadcastInDim S100000x128 ![] bcast_S_S100000x128 (constant S_ .f32 0x3F800000#32)) (addf (broadcastInDim S100000x128 ![] bcast_S_S100000x128 (constant S_ .f32 0x3F800000#32)) (Host.exp (Host.negf (addf (Host.dotGeneral dot_S100000x128_S128x128_S100000x128_1_0_0_1_n_n none nodes Wg) (broadcastInDim S100000x128 ![0, 1] bcast_S1x128_S100000x128_0_1 (broadcastInDim S1x128 ![1] bcast_S128_S1x128_1 bg))))))) (Host.tanh (addf (Host.dotGeneral dot_S100000x128_S128x128_S100000x128_1_0_0_1_n_n none nodes Wf) (broadcastInDim S100000x128 ![0, 1] bcast_S1x128_S100000x128_0_1 (broadcastInDim S1x128 ![1] bcast_S128_S1x128_1 bf))))) (broadcastInDim S100000x128 ![0, 1] bcast_S100000x1_S100000x128_0_1 (broadcastInDim S100000x1 ![0] bcast_S100000_S100000x1_0 mask)))

/-- The reference's sum of node features per segment. -/
def refSum : FVec Ideal S64x128 .f32 :=
  (Host.scatterAdd scatter_S64x128_S100000x1_S100000x128_1_0_0_1 (broadcastInDim S64x128 ![] bcast_S_S64x128 (constant S_ .f32 0x00000000#32)) (broadcastInDim S100000x1 ![0] bcast_S100000_S100000x1_0 ids) G)

/-- The reference's sum of the mask per segment. -/
def refCnt : FVec Ideal S64x1 .f32 :=
  (Host.scatterAdd scatter_S64x1_S100000x1_S100000x1_1_0_0_1 (broadcastInDim S64x1 ![] bcast_S_S64x1 (constant S_ .f32 0x00000000#32)) (broadcastInDim S100000x1 ![0] bcast_S100000_S100000x1_0 ids) (broadcastInDim S100000x1 ![0] bcast_S100000_S100000x1_0 mask))

/-- The reference's greatest node feature per segment. -/
def refMax : FVec Ideal S64x128 .f32 :=
  (Host.reduce FloatOps.maximumf (select (broadcastInDim S64x100000x128 ![0, 1, 2] bcast_S64x100000x1_S64x100000x128_0_1_2 (broadcastInDim S64x100000x1 ![0, 1] bcast_S64x100000_S64x100000x1_0_1 (cmpi .eq (broadcastInDim S64x100000 ![0, 1] bcast_S1x100000_S64x100000_0_1 (broadcastInDim S1x100000 ![1] bcast_S100000_S1x100000_1 ids)) (broadcastInDim S64x100000 ![0, 1] bcast_S64x1_S64x100000_0_1 (broadcastInDim S64x1 ![0] bcast_S64_S64x1_0 (iotaInDim S64 32 0)))))) (broadcastInDim S64x100000x128 ![0, 1, 2] bcast_S1x100000x128_S64x100000x128_0_1_2 (broadcastInDim S1x100000x128 ![1, 2] bcast_S100000x128_S1x100000x128_1_2 G)) (broadcastInDim S64x100000x128 ![] bcast_S_S64x100000x128 (id (constant S_ .f32 0xFF800000#32)))) (constant S_ .f32 0xFF800000#32) reducesTo_S64x100000x128_S64x128_d1 h_S_)

/-- The reference's result. -/
def refOut : FVec Ideal S64x256 .f32 :=
  concatenate S64x256 1 [⟨S64x128, (Host.divf (refSum ids (refG nodes mask Wg bg Wf bf)) (broadcastInDim S64x128 ![0, 1] bcast_S64x1_S64x128_0_1 (maximumf (refCnt ids mask) (broadcastInDim S64x1 ![] bcast_S_S64x1 (constant S_ .f32 0x358637BD#32)))))⟩, ⟨S64x128, refMax ids (refG nodes mask Wg bg Wf bf)⟩] concatenates_S64x128_S64x128_S64x256_d1

/-- The segment id of node `n` (zero beyond the last node). -/
def idAt (n : ℕ) : BitVec 32 := if h : n < 100000 then ids (ix1 ⟨n, h⟩) else 0#32

/-- The gated feature `c` of node `n`, a real number (zero beyond the last node). -/
def gate (n : ℕ) (c : Fin 128) : ℝ :=
  if h : n < 100000 then
    sg (∑ k : Fin 128, nodes (ix2 ⟨n, h⟩ k) * Wg (ix2 k c)) * th (∑ k : Fin 128, nodes (ix2 ⟨n, h⟩ k) * Wf (ix2 k c))
  else 0

/-- The sum of feature `c` over the nodes of segment `s` among the first `N`. -/
def segSum (N : ℕ) (s : Fin 64) (c : Fin 128) : ℝ :=
  ∑ n ∈ Finset.range N, if idAt ids n = BitVec.ofNat 32 s.val then gate nodes Wg Wf n c else 0

/-- The number of nodes of segment `s` among the first `N`. -/
def segCnt (N : ℕ) (s : Fin 64) : ℝ :=
  ∑ n ∈ Finset.range N, if idAt ids n = BitVec.ofNat 32 s.val then 1 else 0

/-- The greatest feature `c` over the nodes of segment `s` among the first `N`. -/
def segTop (N : ℕ) (s : Fin 64) (c : Fin 128) : EReal :=
  top N fun n => if idAt ids n = BitVec.ofNat 32 s.val then ((gate nodes Wg Wf n c : ℝ) : EReal) else ⊥

/-- A comparison of two words for equality that selects between two values. -/
theorem select_eq {α : Type} (a b : BitVec 32) (x y : α) :
    Scalar.select (IntOp.cmpi .eq a b) x y = if a = b then x else y := by
  unfold Scalar.select IntOp.cmpi
  by_cases h : a = b
  · simp [h]
  · have h' : (a == b) = false := by simpa using h
    simp [h, h']

/-- A word that reads as the small number `s` is the word of `s`. -/
theorem toInt_eq_iff (w : BitVec 32) (s : Fin 64) : w.toInt = (s.val : ℤ) ↔ w = BitVec.ofNat 32 s.val := by
  have hs := s.isLt
  have e : (BitVec.ofNat 32 s.val).toInt = (s.val : ℤ) := by
    have hn : (BitVec.ofNat 32 s.val).toNat = s.val := by
      rw [BitVec.toNat_ofNat]; exact Nat.mod_eq_of_lt (by omega)
    rw [BitVec.toInt_eq_toNat_of_lt (by omega), hn]
  constructor
  · intro h; exact BitVec.toInt_inj.1 (h.trans e.symm)
  · rintro rfl; exact e

/-- The reference's gated feature is the real number `gate` where the mask is one and the biases are zero. -/
theorem refG_at (n : Fin 100000) (c : Fin 128) (hm : mask (ix1 n) = 1) (hg : bg (ix1 c) = 0) (hf : bf (ix1 c) = 0) :
    refG nodes mask Wg bg Wf bf (ix2 n c) = ((gate nodes Wg Wf n.val c : ℝ) : EReal) := by
  pointwise [refG]
  rw [hm, hg, hf, add_zero, add_zero, mul_one, logistic_eq, tanh_eq, ← EReal.coe_mul]
  unfold gate
  rw [dif_pos n.isLt]

/-- Where an update of a scatter of rows lands, from its start and its place in the window on each axis. -/
theorem lands_of {C : ℕ} {si su : Shape} (d : ScatterDims ⟨2, ![64, C]⟩ si su) (idx : IVec si 32) (k : su.Idx)
    (w : BitVec 32) (c' : Fin C) (s : Fin 64) (c : Fin C)
    (e0 : d.start k idx 0 = w.toInt) (e1 : d.start k idx 1 = 0) (w0 : d.window k 0 = 0) (w1 : d.window k 1 = c'.val) :
    d.resultIdx? k idx = some (ix2 s c) ↔ w = BitVec.ofNat 32 s.val ∧ c' = c := by
  rw [Routing.resultIdx?_eq_some, ← toInt_eq_iff]
  constructor
  · intro h
    have h0 := h 0
    have h1 := h 1
    rw [e0, w0] at h0
    rw [e1, w1] at h1
    have h0' : w.toInt + ((0 : ℕ) : ℤ) = (s.val : ℤ) := h0
    have h1' : (0 : ℤ) + (c'.val : ℤ) = (c.val : ℤ) := h1
    exact ⟨by omega, Fin.ext (by omega)⟩
  · rintro ⟨h, rfl⟩ a
    match a with
    | ⟨0, _⟩ =>
      show d.start k idx 0 + ((d.window k 0 : ℕ) : ℤ) = (s.val : ℤ)
      rw [e0, w0, h]; simp
    | ⟨1, _⟩ =>
      show d.start k idx 1 + ((d.window k 1 : ℕ) : ℤ) = (c'.val : ℤ)
      rw [e1, w1]; simp

/-- Row `n` of the node features lands in the segment that its id names. -/
theorem lands_feature (idx : IVec S100000x1 32) (n : Fin 100000) (c' : Fin 128) (s : Fin 64) (c : Fin 128) :
    scatter_S64x128_S100000x1_S100000x128_1_0_0_1.resultIdx? (ix2 n c') idx = some (ix2 s c)
      ↔ idx (ix2 n 0) = BitVec.ofNat 32 s.val ∧ c' = c := by
  refine lands_of _ idx (ix2 n c') (idx (ix2 n 0)) c' s c ?_ rfl rfl rfl
  show (idx _).toInt = _
  congr 2
  funext a
  match a with
  | ⟨0, _⟩ => rfl
  | ⟨1, _⟩ => rfl

/-- Row `n` of the mask lands in the segment that its id names. -/
theorem lands_mask (idx : IVec S100000x1 32) (n : Fin 100000) (c' : Fin 1) (s : Fin 64) (c : Fin 1) :
    scatter_S64x1_S100000x1_S100000x1_1_0_0_1.resultIdx? (ix2 n c') idx = some (ix2 s c)
      ↔ idx (ix2 n 0) = BitVec.ofNat 32 s.val ∧ c' = c := by
  refine lands_of _ idx (ix2 n c') (idx (ix2 n 0)) c' s c ?_ rfl rfl rfl
  show (idx _).toInt = _
  congr 2
  funext a
  match a with
  | ⟨0, _⟩ => rfl
  | ⟨1, _⟩ => rfl

/-- A column of ids reads the ids. -/
theorem column_at (n : Fin 100000) :
    broadcastInDim S100000x1 ![0] bcast_S100000_S100000x1_0 ids (ix2 n 0) = ids (ix1 n) := by
  pointwise []

/-- A sum over rows and columns of what lands at one place. -/
theorem sum_landed {C : ℕ} (p : Fin 100000 → Prop) [DecidablePred p] (c : Fin C)
    (q : (⟨2, ![100000, C]⟩ : Shape).Idx → Prop) [DecidablePred q] (f : (⟨2, ![100000, C]⟩ : Shape).Idx → EReal)
    (h : ∀ n c', q (ix2 n c') ↔ p n ∧ c' = c) :
    ∑ j ∈ Finset.univ.filter q, f j = ∑ n, if p n then f (ix2 n c) else 0 := by
  rw [Finset.sum_filter, sum_idx2]
  refine Finset.sum_congr rfl fun n _ => ?_
  by_cases hp : p n
  · rw [if_pos hp, Finset.sum_eq_single c]
    · rw [if_pos ((h n c).2 ⟨hp, rfl⟩)]
    · intro c' _ hc; rw [if_neg fun hq => hc ((h n c').1 hq).2]
    · intro hc; exact absurd (Finset.mem_univ c) hc
  · rw [if_neg hp]
    exact Finset.sum_eq_zero fun c' _ => if_neg fun hq => hp ((h n c').1 hq).1

/-- The reference's sum per segment, where the features are real. -/
theorem refSum_at (hG : ∀ n c, G (ix2 n c) = ((gate nodes Wg Wf n.val c : ℝ) : EReal)) (s : Fin 64) (c : Fin 128) :
    refSum ids G (ix2 s c) = ((segSum nodes ids Wg Wf 100000 s c : ℝ) : EReal) := by
  unfold refSum Host.scatterAdd
  rw [Ideal.hostScatterAdd_def]
  unfold Ideal.hostScatterAdd
  rw [sum_landed (fun n => ids (ix1 n) = BitVec.ofNat 32 s.val) c _ G fun n c' => by rw [lands_feature, column_at]]
  unfold segSum
  rw [coe_sum, ← Fin.sum_univ_eq_sum_range (fun n => (((if idAt ids n = BitVec.ofNat 32 s.val then gate nodes Wg Wf n c else 0 : ℝ)) : EReal))]
  have h0 : broadcastInDim S64x128 ![] bcast_S_S64x128 (constant (F := Ideal) S_ .f32 0x00000000#32) (ix2 s c) = 0 := by
    pointwise []
  rw [h0, zero_add]
  refine Finset.sum_congr rfl fun n _ => ?_
  have e : idAt ids n.val = ids (ix1 n) := by unfold idAt; rw [dif_pos n.isLt]
  rw [e, hG]
  split <;> simp

/-- The reference's count per segment, where the mask is one. -/
theorem refCnt_at (hm : ∀ n, mask (ix1 n) = 1) (s : Fin 64) :
    refCnt ids mask (ix2 s 0) = ((segCnt ids 100000 s : ℝ) : EReal) := by
  unfold refCnt Host.scatterAdd
  rw [Ideal.hostScatterAdd_def]
  unfold Ideal.hostScatterAdd
  rw [sum_landed (fun n => ids (ix1 n) = BitVec.ofNat 32 s.val) (0 : Fin 1) _ _ fun n c' => by rw [lands_mask, column_at]]
  unfold segCnt
  rw [coe_sum, ← Fin.sum_univ_eq_sum_range (fun n => (((if idAt ids n = BitVec.ofNat 32 s.val then 1 else 0 : ℝ)) : EReal))]
  have h0 : broadcastInDim S64x1 ![] bcast_S_S64x1 (constant (F := Ideal) S_ .f32 0x00000000#32) (ix2 s 0) = 0 := by
    pointwise []
  rw [h0, zero_add]
  refine Finset.sum_congr rfl fun n _ => ?_
  have e : idAt ids n.val = ids (ix1 n) := by unfold idAt; rw [dif_pos n.isLt]
  have e1 : broadcastInDim S100000x1 ![0] bcast_S100000_S100000x1_0 mask (ix2 n 0) = 1 := by
    pointwise []
    exact hm n
  rw [e, e1]
  split <;> simp

/-- The reference's greatest feature per segment, where the features are real. -/
theorem refMax_at (hG : ∀ n c, G (ix2 n c) = ((gate nodes Wg Wf n.val c : ℝ) : EReal)) (s : Fin 64) (c : Fin 128) :
    refMax ids G (ix2 s c) = segTop nodes ids Wg Wf 100000 s c := by
  pointwise [refMax]
  rw [ofBits_bot_f32]
  unfold segTop
  rw [← fold_max_eq]
  congr 1
  funext n
  have e : idAt ids n.val = ids (ix1 n) := by unfold idAt; rw [dif_pos n.isLt]
  rw [select_eq, hG, e]
  have e1 : id (constant (F := Ideal) S_ .f32 4286578688#32) ix0 = ⊥ := ofBits_bot_f32
  rw [e1]

/-- The reference's result at one index, where the mask is one and the biases are zero. -/
theorem refOut_at (hm : ∀ n, mask (ix1 n) = 1) (hg : ∀ c, bg (ix1 c) = 0) (hf : ∀ c, bf (ix1 c) = 0) (s : Fin 64) (c : Fin 256) :
    refOut nodes ids mask Wg bg Wf bf (ix2 s c) = if h : c.val < 128 then
        Ideal.div ((segSum nodes ids Wg Wf 100000 s ⟨c.val, h⟩ : ℝ) : EReal)
          (max ((segCnt ids 100000 s : ℝ) : EReal) (Ideal.ofBits .f32 0x358637BD#32))
      else segTop nodes ids Wg Wf 100000 s ⟨c.val - 128, by omega⟩ := by
  have hG : ∀ n c, refG nodes mask Wg bg Wf bf (ix2 n c) = ((gate nodes Wg Wf n.val c : ℝ) : EReal) := fun n c =>
    refG_at nodes mask Wg bg Wf bf n c (hm n) (hg c) (hf c)
  pointwise [refOut]
  split
  · rw [refSum_at nodes ids Wg Wf _ hG, refCnt_at ids mask hm]
  · rw [refMax_at nodes ids Wg Wf _ hG]

end Cert.Readout

end
-- ==== Proof.KernelIdealPays.lean ====
/-
  What the values stored by the body of `KernelIdeal` are at one index, over the extended reals.
-/
module

public import proofs.«01_k».proof.Proof.KernelIdealBody
public import proofs.«01_k».proof.Proof.Reference
public import Idealize.ShloMosaic.Lib.Pointwise
public import Idealize.ShloMosaic.Lib.IdealHost

@[expose] public section

set_option maxRecDepth 16384

noncomputable section

namespace Cert.KernelIdeal.Hand

open Cert.KernelIdeal Cert.KernelIdeal.Gen
open Idealize.ShloMosaic Cert.Readout
open scoped BigOperators

/-- The stored count row is the row itself. -/
theorem pay1_at (v : FVec Ideal S1x64 .f32) (s : Fin 64) : k0_pay1 v (ix2 0 s) = v (ix2 0 s) := by
  pointwise [k0_pay1]

/-- The row of segment ids of a block. -/
theorem pay13_at (x0 : Vec Ideal S1x1x4000 .i32) (l : Fin 4000) : k0_pay13 (F := Ideal) x0 (ix2 0 l) = x0 (ix3 0 0 l) := by
  pointwise [k0_pay13]

/-- The first id of a block. -/
theorem segLo_at (x0 : Vec Ideal S1x1x4000 .i32) : segLo (F := Ideal) x0 = x0 (ix3 0 0 0) := by
  unfold segLo extractAt
  pointwise [k0_pay2, k0_pay13]

/-- The last id of a block. -/
theorem segHi_at (x0 : Vec Ideal S1x1x4000 .i32) : segHi (F := Ideal) x0 = x0 (ix3 0 0 3999) := by
  unfold segHi extractAt
  pointwise [k0_pay3, k0_pay13]

/-- The indicator of segment `s` at lane `l`. -/
theorem pay14_at (x0 : Vec Ideal S1x1x4000 .i32) (s : Fin 64) (l : Fin 4000) :
    k0_pay14 (F := Ideal) x0 (ix2 s l) = if x0 (ix3 0 0 l) = BitVec.ofNat 32 s.val then 1 else 0 := by
  pointwise [k0_pay14, k0_pay13]
  rw [select_eq]

/-- Twice the gated feature: the sum and product of the two hyperbolic tangents, where the left half of the weights is
    half of `Wg` and the right half is `Wf`. -/
theorem pay15_at (x1 : Vec Ideal S4000x128 .f32) (x2 : Vec Ideal S128x256 .bf16) (row : Fin 128 → EReal)
    (wg wf : Fin 128 → EReal) (c : Fin 128) (l : Fin 4000) (h1 : ∀ k, x1 (ix2 l k) = row k)
    (hg : ∀ k, x2 (ix2 k ⟨c.val, by omega⟩) = half * wg k) (hf : ∀ k, x2 (ix2 k ⟨128 + c.val, by omega⟩) = wf k) :
    k0_pay15 x1 x2 (ix2 c l) = ((2 * (sg (∑ k, row k * wg k) * th (∑ k, row k * wf k)) : ℝ) : EReal) := by
  pointwise [k0_pay15]
  have ef : ∑ k, x2 (ix2 k ⟨128 + c.val, by omega⟩) * x1 (ix2 l k) = ∑ k, row k * wf k :=
    Finset.sum_congr rfl fun k _ => by rw [hf, h1, mul_comm]
  have eg : ∑ k, x2 (ix2 k ⟨c.val, by omega⟩) * x1 (ix2 l k) = half * ∑ k, row k * wg k := by
    rw [half_mul_sum]
    exact Finset.sum_congr rfl fun k _ => by rw [hg, h1, mul_assoc, mul_comm (wg k)]
  rw [ef, eg, gated_eq]

/-- The sum of features after a block: the earlier sum and the block's lanes of segment `s`. -/
theorem pay16_at (x1 : Vec Ideal S4000x128 .f32) (x2 : Vec Ideal S128x256 .bf16) (x0 : Vec Ideal S1x1x4000 .i32)
    (v : Vec Ideal S128x64 .f32) (c : Fin 128) (s : Fin 64) :
    k0_pay16 x1 x2 x0 v (ix2 c s)
      = v (ix2 c s) + ∑ l : Fin 4000, k0_pay15 x1 x2 (ix2 c l) * k0_pay14 (F := Ideal) x0 (ix2 s l) := by
  pointwise [k0_pay16]

/-- The count after a block: the earlier count and the block's lanes of segment `s`. -/
theorem pay17_at (x0 : Vec Ideal S1x1x4000 .i32) (v : Vec Ideal S1x64 .f32) (s : Fin 64) :
    k0_pay17 x0 v (ix2 0 s) = v (ix2 0 s) + ∑ l : Fin 4000, k0_pay14 (F := Ideal) x0 (ix2 s l) := by
  pointwise [k0_pay17]

/-- One trip of the loop over segments: column `s` takes the greatest feature of its lanes when the trip is its own, the
    fill otherwise. -/
theorem pay4_at (v13 : IVec S1x4000 32) (v23 : FVec Ideal S128x4000 .bf16) (v38 v40 : BitVec 32)
    (k : Fin (k0_t1_loop v38 v40).trips) (v : Vec Ideal S128x64 .f32) (c : Fin 128) (s : Fin 64) (w : BitVec 32)
    (hw : w = Scf.iv (Scalar.addi (v13 (ix2 0 0)) 0#32) 1#32 k.val) :
    k0_pay4 v13 v23 v38 v40 k v (ix2 c s)
      = max (v (ix2 c s)) (if BitVec.ofNat 32 s.val = w then
          Finset.fold max ⊥ (fun x : Fin 4000 => if v13 (ix2 0 x) = w then v23 (ix2 c x) else Ideal.ofBits .f32 0xFF7F0000#32)
            Finset.univ
        else Ideal.ofBits .f32 0xFF7FFFFF#32) := by
  have e2 : k0_pay2 v13 (ix2 0 0) = v13 (ix2 0 0) := by pointwise [k0_pay2]
  subst hw
  pointwise [k0_pay4]
  rw [select_eq, e2, ofBits_bot_bf16]
  simp only [select_eq]

/-- The identity matrix. -/
theorem pay6_at (s x : Fin 64) : k0_pay6 (F := Ideal) (ix2 s x) = if s = x then 1 else 0 := by
  pointwise [k0_pay6]
  rw [select_eq]
  have h : BitVec.ofNat 32 s.val = BitVec.ofNat 32 x.val ↔ s = x := by
    constructor
    · intro h
      have h1 := (toInt_eq_iff (BitVec.ofNat 32 s.val) s).2 rfl
      have h2 := (toInt_eq_iff (BitVec.ofNat 32 x.val) x).2 rfl
      rw [h, h2] at h1
      exact Fin.ext (by omega)
    · rintro rfl; rfl
  simp only [h]

/-- The sum against a row of the identity matrix. -/
theorem sum_pay6 (s : Fin 64) (f : Fin 64 → EReal) : ∑ x, k0_pay6 (F := Ideal) (ix2 s x) * f x = f s := by
  rw [Finset.sum_eq_single s]
  · rw [pay6_at, if_pos rfl, one_mul]
  · intro x _ hx; rw [pay6_at, if_neg (Ne.symm hx), zero_mul]
  · intro h; exact absurd (Finset.mem_univ s) h

/-- The count as a column. -/
theorem pay7_at (v64 : Vec Ideal S1x64 .f32) (s : Fin 64) : k0_pay7 v64 (ix2 s 0) = v64 (ix2 0 s) := by
  pointwise [k0_pay7]
  exact sum_pay6 s _

/-- The mean: half the sum over the count, which is kept from zero. -/
theorem pay8_at (v60 : Vec Ideal S128x64 .f32) (v64 : Vec Ideal S1x64 .f32) (s : Fin 64) (c : Fin 128) :
    k0_pay8 v60 v64 (ix2 s c)
      = Ideal.div (half * v60 (ix2 c s)) (max (v64 (ix2 0 s)) (Ideal.ofBits .f32 0x358637BD#32)) := by
  pointwise [k0_pay8]
  rw [pay7_at, ofBits_half, sum_pay6 s fun x => v60 (ix2 c x)]

/-- The maximum: half the running maximum, minus infinity for a segment of no nodes. -/
theorem pay9_at (v62 : Vec Ideal S128x64 .f32) (v64 : Vec Ideal S1x64 .f32) (s : Fin 64) (c : Fin 128) :
    k0_pay9 v62 v64 (ix2 s c) = if 0 < v64 (ix2 0 s) then half * v62 (ix2 c s) else ⊥ := by
  pointwise [k0_pay9]
  rw [pay7_at, ofBits_half, ofBits_bot_f32, sum_pay6 s fun x => v62 (ix2 c x)]

/-- The sums start at zero. -/
theorem pay10_at (c : Fin 128) (s : Fin 64) : k0_pay10 (F := Ideal) (ix2 c s) = 0 := by
  pointwise [k0_pay10]

/-- The counts start at zero. -/
theorem pay11_at (s : Fin 64) : k0_pay11 (F := Ideal) (ix2 0 s) = 0 := by
  pointwise [k0_pay11]

/-- The running maxima start at the most negative f32. -/
theorem pay12_at (c : Fin 128) (s : Fin 64) : k0_pay12 (F := Ideal) (ix2 c s) = Ideal.ofBits .f32 0xFF7FFFFF#32 := by
  pointwise [k0_pay12]

end Cert.KernelIdeal.Hand

end
-- ==== Proof.KernelIdealMax.lean ====
/-
  The running maxima after the loop over a block's segments, seen above the level.
-/
module

public import proofs.«01_k».proof.Proof.KernelIdealPays
public import Idealize.ShloMosaic.Lib.Scf
public import Idealize.ShloMosaic.Lib.LoopRemainder

@[expose] public section

set_option maxRecDepth 16384

noncomputable section

namespace Cert.KernelIdeal.Hand

open Cert.KernelIdeal Cert.KernelIdeal.Gen
open Idealize.ShloMosaic Cert.Readout
open scoped BigOperators

/-- The loop over a block's segments runs from its first operand. -/
theorem loop_lb (v38 v40 : BitVec 32) : (k0_t1_loop v38 v40).lb = v38 := by
  show v38 + 0#32 = v38
  simp

/-- The loop over a block's segments runs to the successor of its second operand. -/
theorem loop_ub (v38 v40 : BitVec 32) : (k0_t1_loop v38 v40).ub = v40 + 1#32 := by
  show Scalar.addi (Scalar.addi v38 0#32)
    (Scalar.muli (Scalar.divsi (Scalar.subi (Scalar.addi v40 1#32) (Scalar.addi v38 0#32)) 1#32) 1#32) = _
  rw [Scalar.muli_divsi_one]
  show v38 + 0#32 + (v40 + 1#32 - (v38 + 0#32)) = v40 + 1#32
  rw [add_sub_cancel]

/-- The number of trips, when the second operand has a successor. -/
theorem loop_trips (v38 v40 : BitVec 32) (h : v40.toInt < 2147483647) :
    (k0_t1_loop v38 v40).trips = (v40.toInt + 1 - v38.toInt).toNat := by
  have e : (v40 + 1#32).toInt = v40.toInt + 1 := by
    have := Affine.word_range v40
    rw [BitVec.toInt_add, show (1#32 : BitVec 32).toInt = 1 from rfl]
    exact Int.bmod_eq_of_le (by omega) (by omega)
  show Scf.trips (k0_t1_loop v38 v40).lb (k0_t1_loop v38 v40).ub 1#32 = _
  rw [loop_lb, loop_ub]
  unfold Scf.trips
  rw [e, show (1#32 : BitVec 32).toInt = 1 from rfl]
  congr 1
  omega

/-- The segment visited by a trip. -/
theorem toInt_visit (v38 v40 : BitVec 32) (k : ℕ) (hk : k ≤ (k0_t1_loop v38 v40).trips) :
    (Scf.iv (Scalar.addi v38 0#32) 1#32 k).toInt = v38.toInt + k := by
  have h := Scf.toInt_iv (k0_t1_ok v38 v40 (chk_all v38 v40)) hk
  rw [loop_lb] at h
  have e : Scalar.addi v38 0#32 = v38 := loop_lb v38 v40
  rw [e]
  have h1 : (k0_t1_loop v38 v40).st = 1#32 := rfl
  rw [h1, show (1#32 : BitVec 32).toInt = 1 from rfl, mul_one] at h
  exact h

/-- The running maxima before trip `k`, seen above the level: a segment already visited has taken the greatest feature of
    its lanes. -/
theorem maxIter_at (v13 : IVec S1x4000 32) (v23 : FVec Ideal S128x4000 .bf16) (v40 : BitVec 32)
    (g : Vec Ideal S128x64 .f32) (q : ℕ → BitVec 32) (f : ℕ → EReal) (c : Fin 128) (s : Fin 64)
    (hq : ∀ l : Fin 4000, v13 (ix2 0 l) = q l.val) (hf : ∀ l : Fin 4000, v23 (ix2 c l) = f l.val) (k : ℕ)
    (hk : k ≤ (k0_t1_loop (v13 (ix2 0 0)) v40).trips) :
    cap (maxIter v13 v23 (v13 (ix2 0 0)) v40 g k (ix2 c s))
      = if (q 0).toInt ≤ (s.val : ℤ) ∧ (s.val : ℤ) < (q 0).toInt + k then
          max (cap (g (ix2 c s))) (cap (top 4000 fun x => if q x = BitVec.ofNat 32 s.val then f x else ⊥))
        else cap (g (ix2 c s)) := by
  induction k with
  | zero => rw [if_neg (by omega)]; rfl
  | succ k ih =>
    have hk' : k < (k0_t1_loop (v13 (ix2 0 0)) v40).trips := hk
    have ih := ih hk'.le
    have hv := toInt_visit (v13 (ix2 0 0)) v40 k hk'.le
    have h0 : v13 (ix2 0 0) = q 0 := hq 0
    have e := pay4_at v13 v23 (v13 (ix2 0 0)) v40 ⟨k, hk'⟩ (maxIter v13 v23 (v13 (ix2 0 0)) v40 g k) c s _ rfl
    have hs : (BitVec.ofNat 32 s.val).toInt = (s.val : ℤ) := (toInt_eq_iff _ s).2 rfl
    have e' : maxIter v13 v23 (v13 (ix2 0 0)) v40 g (k + 1)
        = k0_pay4 v13 v23 (v13 (ix2 0 0)) v40 ⟨k, hk'⟩ (maxIter v13 v23 (v13 (ix2 0 0)) v40 g k) := by
      rw [maxIter, dif_pos hk']
    rw [e', e, cap_max, ih]
    by_cases hw : BitVec.ofNat 32 s.val = Scf.iv (Scalar.addi (v13 (ix2 0 0)) 0#32) 1#32 k
    · have hi : (s.val : ℤ) = (q 0).toInt + k := by rw [← hs, hw, hv, h0]
      have n1 : ¬((q 0).toInt ≤ (s.val : ℤ) ∧ (s.val : ℤ) < (q 0).toInt + (k : ℤ)) := by omega
      have n2 : (q 0).toInt ≤ (s.val : ℤ) ∧ (s.val : ℤ) < (q 0).toInt + ((k + 1 : ℕ) : ℤ) := by push_cast; omega
      rw [if_neg n1, if_pos n2, if_pos hw, ← hw]
      congr 1
      rw [← cap_top_fill 4000 f (fun x => q x = BitVec.ofNat 32 s.val) fill_le, ← fold_max_eq]
      congr 2
      funext x
      rw [hq, hf]
    · have hi : (s.val : ℤ) ≠ (q 0).toInt + k := by
        intro h; apply hw; symm; rw [← toInt_eq_iff, hv, h0, h]
      rw [if_neg hw, cap_of_le lowest_f32_le]
      have hc : ((q 0).toInt ≤ (s.val : ℤ) ∧ (s.val : ℤ) < (q 0).toInt + ((k + 1 : ℕ) : ℤ))
          ↔ ((q 0).toInt ≤ (s.val : ℤ) ∧ (s.val : ℤ) < (q 0).toInt + (k : ℤ)) := by
        constructor <;> rintro ⟨h1, h2⟩ <;> exact ⟨h1, by push_cast at *; omega⟩
      simp only [hc]
      exact max_eq_left (by split_ifs; exacts [le_max_of_le_left (level_le_cap _), level_le_cap _])

/-- The running maxima after a block whose ids ascend, seen above the level: each segment has taken the greatest feature of
    its lanes. -/
theorem maxAll_at (x0 : Vec Ideal S1x1x4000 .i32) (x1 : Vec Ideal S4000x128 .f32) (x2 : Vec Ideal S128x256 .bf16)
    (g : Vec Ideal S128x64 .f32) (q : ℕ → BitVec 32) (f : ℕ → EReal) (c : Fin 128) (s : Fin 64)
    (hq : ∀ l : Fin 4000, x0 (ix3 0 0 l) = q l.val) (hf : ∀ l : Fin 4000, k0_pay15 x1 x2 (ix2 c l) = f l.val)
    (hlo : ∀ l, l < 4000 → (q 0).toInt ≤ (q l).toInt) (hhi : ∀ l, l < 4000 → (q l).toInt ≤ (q 3999).toInt)
    (hmax : (q 3999).toInt < 2147483647) :
    cap (maxAll x0 x1 x2 g (ix2 c s))
      = max (cap (g (ix2 c s))) (cap (top 4000 fun x => if q x = BitVec.ofNat 32 s.val then f x else ⊥)) := by
  have elo : segLo (F := Ideal) x0 = k0_pay13 (F := Ideal) x0 (ix2 0 0) := by rw [segLo_at, pay13_at]
  have ehi : segHi (F := Ideal) x0 = q 3999 := by rw [segHi_at]; exact hq 3999
  have e0 : k0_pay13 (F := Ideal) x0 (ix2 0 0) = q 0 := by rw [pay13_at]; exact hq 0
  unfold maxAll
  rw [elo, ehi, maxIter_at (k0_pay13 x0) (k0_pay15 x1 x2) (q 3999) g q f c s (fun l => by rw [pay13_at, hq]) hf _ le_rfl]
  rw [loop_trips _ _ hmax, e0]
  have hs : (BitVec.ofNat 32 s.val).toInt = (s.val : ℤ) := (toInt_eq_iff _ s).2 rfl
  have h03 := hlo 3999 (by omega)
  split_ifs with h
  · rfl
  · have hT : (top 4000 fun x => if q x = BitVec.ofNat 32 s.val then f x else ⊥) = ⊥ := by
      unfold top
      refine le_antisymm (Finset.sup_le fun x hx => ?_) bot_le
      have hx := Finset.mem_range.1 hx
      rw [if_neg]
      intro hc
      have h1 := hlo x hx
      have h2 := hhi x hx
      rw [hc, hs] at h1 h2
      exact h ⟨h1, by omega⟩
    rw [hT, cap_of_le bot_le, max_eq_left (level_le_cap _)]

end Cert.KernelIdeal.Hand

end
-- ==== Proof.Precondition.lean ====
/-
  What the precondition of the value claim says of the arguments.
-/
module

public import proofs.«01_k».proof.Proof.Gen.Pre_inputs_relied_on
public import Idealize.ShloMosaic.Lib.ReduceAll
public import Idealize.ShloMosaic.Lib.Affine
public import Idealize.ShloMosaic.Lib.Pointwise
public import Idealize.ShloMosaic.Lib.IdealHost

@[expose] public section

set_option maxRecDepth 16384

noncomputable section

namespace Cert.Readout

open Cert.Pre_inputs_relied_on Cert.Pre_inputs_relied_on.Gen
open Idealize.ShloMosaic

/-- The arguments the value claim is about: ascending ids below the greatest word, a mask of ones, and zero biases. -/
structure Relied (ids : IVec S100000 32) (mask : FVec Ideal S100000 .f32) (bg bf : FVec Ideal S128 .f32) : Prop where
  bound : ∀ n, (ids (ix1 n)).toInt < 2147483647
  ascend : ∀ (n : ℕ) (h : n + 1 < 100000), (ids (ix1 ⟨n, by omega⟩)).toInt ≤ (ids (ix1 ⟨n + 1, h⟩)).toInt
  mask_one : ∀ n, mask (ix1 n) = 1
  bg_zero : ∀ c, bg (ix1 c) = 0
  bf_zero : ∀ c, bf (ix1 c) = 0

/-- The only index of a scalar shape. -/
instance : Subsingleton S_.Idx := ⟨fun a b => funext fun d => d.elim0⟩

/-- A conjunction of two flags that is one has both flags one. -/
theorem both {x y : IVec S_ 1} {j : S_.Idx} (h : andi x y j = 1#1) : x j = 1#1 ∧ y j = 1#1 := IntOp.andi_eq_one.1 h

/-- An ordered comparison for equality over the extended reals that is one is an equality. -/
theorem oeq_of {a b : EReal} (h : Ideal.cmp .oeq a b = 1#1) : a = b := by
  have h' : BitVec.ofBool (decide (a = b)) = 1#1 := h
  by_contra hne
  rw [decide_eq_false hne] at h'
  exact absurd h' (by decide)

/-- The slice of all ids but the last. -/
theorem slice_first (ids : IVec S100000 32) (n : ℕ) (h : n < 99999) :
    extractStridedSlice S99999 ![0] ids slices_S100000_S99999_0 (ix1 ⟨n, h⟩) = ids (ix1 ⟨n, by omega⟩) := by
  pointwise []

/-- The slice of all ids but the first. -/
theorem slice_second (ids : IVec S100000 32) (n : ℕ) (h : n < 99999) :
    extractStridedSlice S99999 ![1] ids slices_S100000_S99999_1 (ix1 ⟨n, h⟩) = ids (ix1 ⟨n + 1, by omega⟩) := by
  pointwise []
  congr 2
  exact Fin.ext (Nat.add_comm 1 n)

/-- The comparison of the mask with one. -/
theorem mask_eq_at (mask : FVec Ideal S100000 .f32) (n : Fin 100000) :
    cmpf .oeq mask (broadcastInDim S100000 ![] bcast_S_S100000 (constant (F := Ideal) S_ .f32 0x3F800000#32)) (ix1 n)
      = Ideal.cmp .oeq (mask (ix1 n)) 1 := by
  pointwise []

/-- The comparison of a bias with zero. -/
theorem bias_eq_at (b : FVec Ideal S128 .f32) (c : Fin 128) :
    cmpf .oeq b (broadcastInDim S128 ![] bcast_S_S128 (constant (F := Ideal) S_ .f32 0x00000000#32)) (ix1 c)
      = Ideal.cmp .oeq (b (ix1 c)) 0 := by
  pointwise []

/-- The precondition gives `Relied`. -/
theorem relied_of (a0 : FVec Ideal S100000x128 .f32) (ids : IVec S100000 32) (mask : FVec Ideal S100000 .f32)
    (a3 : FVec Ideal S128x128 .f32) (bg : FVec Ideal S128 .f32) (a5 : FVec Ideal S128x128 .f32) (bf : FVec Ideal S128 .f32)
    (h : fn (F := Ideal) a0 ids mask a3 bg a5 bf = fun _ => 1#1) : Relied ids mask bg bf := by
  have h0 := congrFun h (fun d => d.elim0)
  unfold fn fn_part1 at h0
  obtain ⟨h0, hbf⟩ := both h0
  obtain ⟨h0, hbg⟩ := both h0
  obtain ⟨h0, hm⟩ := both h0
  obtain ⟨hr, ha⟩ := both h0
  refine ⟨fun n => ?_, fun n hn => ?_, fun n => ?_, fun c => ?_, fun c => ?_⟩
  · exact IntOp.cmpi_slt.1 (Host.reduce_andi_all _ _ _ _ _ hr (ix1 n))
  · have e := IntOp.cmpi_sle.1 (Host.reduce_andi_all _ _ _ _ _ ha (ix1 ⟨n, by omega⟩))
    beta_reduce at e
    rwa [slice_first, slice_second] at e
  · have e := Host.reduce_andi_all _ _ _ _ _ hm (ix1 n)
    rw [mask_eq_at] at e
    exact oeq_of e
  · have e := Host.reduce_andi_all _ _ _ _ _ hbg (ix1 c)
    rw [bias_eq_at] at e
    exact oeq_of e
  · have e := Host.reduce_andi_all _ _ _ _ _ hbf (ix1 c)
    rw [bias_eq_at] at e
    exact oeq_of e

end Cert.Readout

end
-- ==== Proof.KernelIdealValue.lean ====
/-
  The result array of `KernelIdeal` is the reference's result on the inputs the kernel relies on.
-/
module

public import proofs.«01_k».proof.Proof.KernelIdealBlocks
public import proofs.«01_k».proof.Proof.KernelIdealMax
public import proofs.«01_k».proof.Proof.Precondition

@[expose] public section

set_option maxRecDepth 16384

noncomputable section

namespace Cert.KernelIdeal.Hand

open Cert.KernelIdeal Cert.KernelIdeal.Gen
open Idealize.ShloMosaic Idealize.ShloMosaic.TcCoe Cert.Readout
open Idealize.ShloMosaic.Pipeline (Dat Cfg Window)
open scoped BigOperators

variable (m : (ℓ : Loc nD τ sig) → Buf (Elt Ideal) ℓ) (c : Dev nD)

/-- The node features. -/
abbrev nodesOf : FVec Ideal S100000x128 .f32 := m ((c : Thread nD τ).loc main_arg0)
/-- The segment ids. -/
abbrev idsOf : IVec S100000 32 := m ((c : Thread nD τ).loc main_arg1)
/-- The mask. -/
abbrev maskOf : FVec Ideal S100000 .f32 := m ((c : Thread nD τ).loc main_arg2)
/-- The weights of the gate. -/
abbrev WgOf : FVec Ideal S128x128 .f32 := m ((c : Thread nD τ).loc main_arg3)
/-- The bias of the gate. -/
abbrev bgOf : FVec Ideal S128 .f32 := m ((c : Thread nD τ).loc main_arg4)
/-- The weights of the feature. -/
abbrev WfOf : FVec Ideal S128x128 .f32 := m ((c : Thread nD τ).loc main_arg5)
/-- The bias of the feature. -/
abbrev bfOf : FVec Ideal S128 .f32 := m ((c : Thread nD τ).loc main_arg6)

/-- Twice a gated feature of a node is at least minus two. -/
theorem neg_two_le_gate (nodes : FVec Ideal S100000x128 .f32) (Wg Wf : FVec Ideal S128x128 .f32) (n : ℕ) (j : Fin 128) :
    -2 ≤ 2 * gate nodes Wg Wf n j := by
  unfold gate
  split_ifs
  · exact neg_two_le _ _
  · norm_num

/-- Ascending ids: an earlier node has no greater id. -/
theorem ids_mono {ids : IVec S100000 32} {mask : FVec Ideal S100000 .f32} {bg bf : FVec Ideal S128 .f32}
    (h : Relied ids mask bg bf) (a d : ℕ) (hd : a + d < 100000) : (idAt ids a).toInt ≤ (idAt ids (a + d)).toInt := by
  induction d with
  | zero => exact le_rfl
  | succ d ih =>
    refine (ih (by omega)).trans ?_
    unfold idAt
    rw [dif_pos (show a + d < 100000 by omega), dif_pos hd]
    exact h.ascend (a + d) hd

/-- A lane of the block of ids at a point is the id of its node. -/
theorem block_ids (t : Fin cfg0.N) (l : Fin 4000) :
    (iblk m c 0 t : Vec Ideal S1x1x4000 .i32) (ix3 0 0 l) = idAt (idsOf m c) (t.val * 4000 + l.val) := by
  have ht : t.val < 25 := Nat.lt_of_lt_of_eq t.isLt N_0
  have h : t.val * 4000 + l.val < 100000 := by omega
  rw [iblk_ids m c t l h]
  unfold idAt
  rw [dif_pos h]

/-- What the body computes at a lane is twice the gated feature of its node. -/
theorem block_gate (t : Fin cfg0.N) (j : Fin 128) (l : Fin 4000) :
    k0_pay15 (F := Ideal) (iblk m c 1 t) (iblk m c 2 t) (ix2 j l)
      = ((2 * gate (nodesOf m c) (WgOf m c) (WfOf m c) (t.val * 4000 + l.val) j : ℝ) : EReal) := by
  have ht : t.val < 25 := Nat.lt_of_lt_of_eq t.isLt N_0
  have h : t.val * 4000 + l.val < 100000 := by omega
  rw [pay15_at (iblk m c 1 t) (iblk m c 2 t) (fun k => nodesOf m c (ix2 ⟨t.val * 4000 + l.val, h⟩ k))
    (fun k => WgOf m c (ix2 k j)) (fun k => WfOf m c (ix2 k j)) j l (fun k => iblk_nodes m c t l k h)
    (fun k => iblk_left m c t k j) (fun k => iblk_right m c t k j)]
  unfold gate
  rw [dif_pos h]

/-- The greatest of the doubled gated features of a segment among the first `N` nodes. -/
def top2 (N : ℕ) (s : Fin 64) (j : Fin 128) : EReal :=
  top N fun k => if idAt (idsOf m c) k = BitVec.ofNat 32 s.val then
    ((2 * gate (nodesOf m c) (WgOf m c) (WfOf m c) k j : ℝ) : EReal) else ⊥

section Step

variable (x0 : Vec Ideal S1x1x4000 .i32) (x1 : Vec Ideal S4000x128 .f32) (x2 : Vec Ideal S128x256 .bf16) (b : ℕ)
  (hq : ∀ l : Fin 4000, x0 (ix3 0 0 l) = idAt (idsOf m c) (b + l.val))
  (hf : ∀ (j : Fin 128) (l : Fin 4000), k0_pay15 (F := Ideal) x1 x2 (ix2 j l)
    = ((2 * gate (nodesOf m c) (WgOf m c) (WfOf m c) (b + l.val) j : ℝ) : EReal))

include hq hf in
/-- A block's sums, from the sums over the `b` nodes before it. -/
theorem sum_step (v : Vec Ideal S128x64 .f32) (j : Fin 128) (s : Fin 64)
    (hv : v (ix2 j s) = ((2 * segSum (nodesOf m c) (idsOf m c) (WgOf m c) (WfOf m c) b s j : ℝ) : EReal)) :
    k0_pay16 x1 x2 x0 v (ix2 j s)
      = ((2 * segSum (nodesOf m c) (idsOf m c) (WgOf m c) (WfOf m c) (b + 4000) s j : ℝ) : EReal) := by
  rw [pay16_at, hv]
  unfold segSum
  rw [Finset.sum_range_add, Finset.sum_range (n := 4000), mul_add, EReal.coe_add, Finset.mul_sum Finset.univ, coe_sum Finset.univ]
  refine congrArg (_ + ·) (Finset.sum_congr rfl fun l _ => ?_)
  rw [hf, pay14_at, hq]
  split_ifs
  · rw [mul_one]
  · rw [mul_zero, mul_zero, EReal.coe_zero]

include hq in
/-- A block's counts, from the counts over the `b` nodes before it. -/
theorem count_step (v : Vec Ideal S1x64 .f32) (s : Fin 64)
    (hv : v (ix2 0 s) = ((segCnt (idsOf m c) b s : ℝ) : EReal)) :
    k0_pay1 (k0_pay17 x0 v) (ix2 0 s) = ((segCnt (idsOf m c) (b + 4000) s : ℝ) : EReal) := by
  rw [pay1_at, pay17_at, hv]
  unfold segCnt
  rw [Finset.sum_range_add, Finset.sum_range (n := 4000), EReal.coe_add, coe_sum Finset.univ]
  refine congrArg (_ + ·) (Finset.sum_congr rfl fun l _ => ?_)
  rw [pay14_at, hq]
  split_ifs
  · rw [EReal.coe_one]
  · rw [EReal.coe_zero]

include hq hf in
/-- A block's running maxima seen above the level, from those over the `b` nodes before it. -/
theorem max_step (h : Relied (idsOf m c) (maskOf m c) (bgOf m c) (bfOf m c)) (hb : b + 3999 < 100000)
    (g : Vec Ideal S128x64 .f32) (j : Fin 128) (s : Fin 64) (hg : cap (g (ix2 j s)) = cap (top2 m c b s j)) :
    cap (maxAll x0 x1 x2 g (ix2 j s)) = cap (top2 m c (b + 4000) s j) := by
  have hlo : ∀ l, l < 4000 → (idAt (idsOf m c) (b + 0)).toInt ≤ (idAt (idsOf m c) (b + l)).toInt := fun l hl => by
    rw [Nat.add_zero]
    exact ids_mono h b l (by omega)
  have hhi : ∀ l, l < 4000 → (idAt (idsOf m c) (b + l)).toInt ≤ (idAt (idsOf m c) (b + 3999)).toInt := fun l hl => by
    have e := ids_mono h (b + l) (3999 - l) (by omega)
    rwa [show b + l + (3999 - l) = b + 3999 by omega] at e
  have hmax : (idAt (idsOf m c) (b + 3999)).toInt < 2147483647 := by
    unfold idAt
    rw [dif_pos hb]
    exact h.bound _
  rw [maxAll_at x0 x1 x2 g (fun l => idAt (idsOf m c) (b + l))
    (fun l => ((2 * gate (nodesOf m c) (WgOf m c) (WfOf m c) (b + l) j : ℝ) : EReal)) j s hq (hf j) hlo hhi hmax, hg,
    ← cap_max]
  unfold top2
  rw [top_add]

end Step

/-- The maxima a step makes. -/
theorem step_max (x0 : Vec Ideal S1x1x4000 .i32) (x1 : Vec Ideal S4000x128 .f32) (x2 : Vec Ideal S128x256 .bf16) (s : St Ideal) :
    (stepSt x0 x1 x2 s).2.2 = maxAll x0 x1 x2 s.2.2 := by
  unfold stepSt
  dsimp only

/-- The sums after `n` blocks are twice the segments' sums of gated features. -/
theorem sums_at (n : ℕ) (hn : n ≤ 25) (j : Fin 128) (s : Fin 64) :
    (stAt m c n).1 (ix2 j s)
      = ((2 * segSum (nodesOf m c) (idsOf m c) (WgOf m c) (WfOf m c) (n * 4000) s j : ℝ) : EReal) := by
  induction n with
  | zero =>
    show k0_pay10 (F := Ideal) (ix2 j s) = _
    rw [pay10_at, Nat.zero_mul]
    unfold segSum
    rw [Finset.range_zero, Finset.sum_empty, mul_zero, EReal.coe_zero]
  | succ n ih =>
    let t : Fin cfg0.N := ⟨n, Nat.lt_of_lt_of_eq hn N_0.symm⟩
    have e := stAt_succ m c t
    have e1 : (stAt m c (n + 1)).1 = k0_pay16 (iblk m c 1 t) (iblk m c 2 t) (iblk m c 0 t) (stAt m c n).1 := congrArg Prod.fst e
    rw [e1, Nat.succ_mul]
    exact sum_step m c (iblk m c 0 t) (iblk m c 1 t) (iblk m c 2 t) (n * 4000) (block_ids m c t) (block_gate m c t) _ j s (ih (by omega))

/-- The counts after `n` blocks are the segments' numbers of nodes. -/
theorem counts_at (n : ℕ) (hn : n ≤ 25) (s : Fin 64) :
    (stAt m c n).2.1 (ix2 0 s) = ((segCnt (idsOf m c) (n * 4000) s : ℝ) : EReal) := by
  induction n with
  | zero =>
    show k0_pay11 (F := Ideal) (ix2 0 s) = _
    rw [pay11_at, Nat.zero_mul]
    unfold segCnt
    rw [Finset.range_zero, Finset.sum_empty, EReal.coe_zero]
  | succ n ih =>
    let t : Fin cfg0.N := ⟨n, Nat.lt_of_lt_of_eq hn N_0.symm⟩
    have e := stAt_succ m c t
    have e1 : (stAt m c (n + 1)).2.1 = k0_pay1 (k0_pay17 (iblk m c 0 t) (stAt m c n).2.1) := congrArg (fun p => p.2.1) e
    rw [e1, Nat.succ_mul]
    exact count_step m c (iblk m c 0 t) (n * 4000) (block_ids m c t) _ s (ih (by omega))

/-- The running maxima after `n` blocks, seen above the level, are the segments' greatest doubled gated features. -/
theorem maxima_at (h : Relied (idsOf m c) (maskOf m c) (bgOf m c) (bfOf m c)) (n : ℕ) (hn : n ≤ 25) (j : Fin 128)
    (s : Fin 64) : cap ((stAt m c n).2.2 (ix2 j s)) = cap (top2 m c (n * 4000) s j) := by
  induction n with
  | zero =>
    show cap (k0_pay12 (F := Ideal) (ix2 j s)) = _
    rw [pay12_at, cap_of_le lowest_f32_le, Nat.zero_mul]
    unfold top2 top
    rw [Finset.range_zero, Finset.sup_empty, cap_of_le bot_le]
  | succ n ih =>
    have hb : n * 4000 + 3999 < 100000 := by omega
    have ih := ih (by omega)
    let t : Fin cfg0.N := ⟨n, Nat.lt_of_lt_of_eq hn N_0.symm⟩
    have e := stAt_succ m c t
    have e1 : (stAt m c (n + 1)).2.2 = maxAll (iblk m c 0 t) (iblk m c 1 t) (iblk m c 2 t) (stAt m c n).2.2 :=
      (congrArg (fun p : St Ideal => p.2.2) e).trans (step_max _ _ _ _)
    rw [e1, Nat.succ_mul]
    exact max_step m c (iblk m c 0 t) (iblk m c 1 t) (iblk m c 2 t) (n * 4000) (block_ids m c t) (block_gate m c t) h hb _ j s ih

/-- A segment's number of nodes is positive when it has a node. -/
theorem cnt_pos_of (ids : IVec S100000 32) (N : ℕ) (s : Fin 64) (n : ℕ) (hn : n < N) (h : idAt ids n = BitVec.ofNat 32 s.val) :
    0 < segCnt ids N s := by
  unfold segCnt
  refine lt_of_lt_of_le one_pos ?_
  have := Finset.single_le_sum (f := fun n => if idAt ids n = BitVec.ofNat 32 s.val then (1 : ℝ) else 0)
    (fun i _ => by show (0 : ℝ) ≤ if _ then _ else _; split_ifs <;> norm_num) (Finset.mem_range.2 hn)
  simpa [h] using this

/-- A segment whose number of nodes is positive has a node. -/
theorem exists_of_cnt_pos (ids : IVec S100000 32) (N : ℕ) (s : Fin 64) (h : 0 < segCnt ids N s) :
    ∃ n, n < N ∧ idAt ids n = BitVec.ofNat 32 s.val := by
  by_contra hne
  push Not at hne
  unfold segCnt at h
  rw [Finset.sum_eq_zero fun n hn => if_neg (hne n (Finset.mem_range.1 hn))] at h
  exact lt_irrefl _ h

/-- Half of the greatest doubled gated feature is the greatest gated feature. -/
theorem half_top2 (N : ℕ) (s : Fin 64) (j : Fin 128) :
    half * top2 m c N s j = segTop (nodesOf m c) (idsOf m c) (WgOf m c) (WfOf m c) N s j := by
  unfold top2 segTop
  refine half_mul_top N _ _ fun x _ => ?_
  split_ifs
  · exact half_mul_two _
  · exact EReal.coe_mul_bot_of_pos (by norm_num)

/-- A segment with a node has a greatest doubled gated feature above the level. -/
theorem level_lt_top2 (N : ℕ) (s : Fin 64) (j : Fin 128) (n : ℕ) (hn : n < N)
    (h : idAt (idsOf m c) n = BitVec.ofNat 32 s.val) : level < top2 m c N s j := by
  refine lt_of_lt_of_le (level_lt_coe (neg_two_le_gate (nodesOf m c) (WgOf m c) (WfOf m c) n j)) ?_
  have := Finset.le_sup (f := fun k => if idAt (idsOf m c) k = BitVec.ofNat 32 s.val then
    ((2 * gate (nodesOf m c) (WgOf m c) (WfOf m c) k j : ℝ) : EReal) else ⊥) (Finset.mem_range.2 hn)
  beta_reduce at this
  rw [if_pos h] at this
  exact this

/-- The result array is the reference's result. -/
theorem out_eq (h : Relied (idsOf m c) (maskOf m c) (bgOf m c) (bfOf m c)) :
    outSt (stAt m c 25) = refOut (nodesOf m c) (idsOf m c) (maskOf m c) (WgOf m c) (bgOf m c) (WfOf m c) (bfOf m c) := by
  have key : ∀ (s : Fin 64) (k : Fin 256), outSt (stAt m c 25) (ix2 s k)
      = refOut (nodesOf m c) (idsOf m c) (maskOf m c) (WgOf m c) (bgOf m c) (WfOf m c) (bfOf m c) (ix2 s k) := by
    intro s k
    rw [refOut_at _ _ _ _ _ _ _ h.mask_one h.bg_zero h.bf_zero]
    have hc := counts_at m c 25 le_rfl s
    by_cases hk : k.val < 128
    · rw [dif_pos hk]
      show (if h : k.val < 128 then _ else _) = _
      rw [dif_pos hk]
      show k0_pay8 _ _ (ix2 s ⟨k.val, hk⟩) = _
      rw [pay8_at, sums_at m c 25 le_rfl, hc, half_mul_two]
    · rw [dif_neg hk]
      show (if h : k.val < 128 then _ else _) = _
      rw [dif_neg hk]
      show k0_pay9 _ _ (ix2 s ⟨k.val - 128, _⟩) = _
      have hx := maxima_at m c h 25 le_rfl ⟨k.val - 128, by omega⟩ s
      rw [pay9_at, hc]
      split_ifs with hp
      · obtain ⟨n, hn, hi⟩ := exists_of_cnt_pos (idsOf m c) (25 * 4000) s (EReal.coe_pos.1 hp)
        rw [eq_of_cap_eq hx (level_lt_top2 m c _ s _ n hn hi)]
        exact half_top2 m c (25 * 4000) s _
      · symm
        unfold segTop top
        refine le_antisymm (Finset.sup_le fun n hn => ?_) bot_le
        rw [if_neg]
        intro hi
        exact hp (EReal.coe_pos.2 (cnt_pos_of (idsOf m c) (25 * 4000) s n (Finset.mem_range.1 hn) hi))
  funext i
  have hi : i = ix2 (i 0) (i 1) := by
    funext d
    match d with
    | ⟨0, _⟩ => rfl
    | ⟨1, _⟩ => rfl
  rw [hi]
  exact key (i 0) (i 1)

end Cert.KernelIdeal.Hand

end
-- ==== Proof.Algebraic.lean ====
/-
  The claim that the kernel over the extended reals computes the reference.
-/
module

public import proofs.«01_k».proof.Defs
public import proofs.«01_k».proof.Proof.KernelIdealValue
public import Idealize.ShloMosaic.Lib.Claim

@[expose] public section

set_option maxRecDepth 16384

noncomputable section

namespace Cert.Algebraic

open Idealize.ShloMosaic Idealize.SL.Sem Cert.Readout

/-- The reference leaves `refOut` of its arguments. -/
theorem reference_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v39)
        = refOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))) :=
  (θ_run Cert.ReferenceIdeal.defs _ _).mono (fun r h c => (h c).1) (Cert.ReferenceIdeal.Value.run (F := Ideal) m ρ)

/-- The arguments of the reference after its run. -/
theorem reference_args (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run Cert.ReferenceIdeal.defs _ _).mono (fun r h c => (h c).2) (Cert.ReferenceIdeal.Value.run (F := Ideal) m ρ)

/-- The kernel's result array after its run is what the last point leaves. -/
theorem kernel_value (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0)
        = Cert.KernelIdeal.Hand.outSt (Cert.KernelIdeal.Hand.stAt m c 25)) :=
  (θ_run Cert.KernelIdeal.defs _ _).mono
    (fun r h c => ((h.1 c).1 3).trans (Cert.KernelIdeal.Hand.final_out m c)) (Cert.KernelIdeal.Hand.run_main (F := Ideal) m ρ)

/-- On the inputs the kernel relies on, kernel and reference leave the same result, the reference's. -/
theorem algebraic : Cert.algebraic_KernelIdeal_ReferenceIdeal_pre_inputs_relied_on
    (hKernelIdeal := Cert.KernelIdeal.Gen.facts) (hReferenceIdeal := Cert.ReferenceIdeal.Gen.facts)
    (hPre_inputs_relied_on := Cert.Pre_inputs_relied_on.Gen.facts) := by
  intro m g m' g' hpre hargs
  refine ⟨fun c => Cert.KernelIdeal.Hand.outSt (Cert.KernelIdeal.Hand.stAt m c 25), ?_, ?_⟩
  · exact (θ_run Cert.KernelIdeal.defs _ _).mono (fun r h c => ⟨h.1 c, h.2 c⟩)
      (θ_run_and (kernel_value m g) (Cert.KernelIdeal.Hand.unchanged (F := Ideal) m g))
  · refine (θ_run Cert.ReferenceIdeal.defs _ _).mono (fun r h c => ⟨(h.1 c).trans ?_, h.2 c⟩)
      (θ_run_and (reference_value m' g') (reference_args m' g'))
    obtain ⟨h0, h1, h2, h3, h4, h5, h6⟩ := hargs c
    rw [h0, h1, h2, h3, h4, h5, h6]
    exact (Cert.KernelIdeal.Hand.out_eq m c (relied_of _ _ _ _ _ _ _ (hpre c))).symm

end Cert.Algebraic

end
-- ==== Proof.lean ====
/-
  The certificate: the frames of the three programs, the kernel preserved by idealization, and the kernel's result equal
  to the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_inputs_relied_on
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_inputs_relied_on.Gen.facts,
    Cert.Frames.kernel, Cert.Frames.ideal, Cert.Frames.ideal_pre, Cert.Frames.reference, Cert.Frames.reference_pre,
    trivial, Cert.Algebraic.algebraic⟩

end Cert.Proof

end
